-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 512, 1024]⟩ ⟨3, ![32, 512, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 1024]⟩ ⟨2, ![2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v32) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x32 : Shape := ⟨2, ![512, 32]⟩
abbrev S2048x1 : Shape := ⟨2, ![2048, 1]⟩
abbrev S8x512x1024 : Shape := ⟨3, ![8, 512, 1024]⟩
abbrev S512x1024 : Shape := ⟨2, ![512, 1024]⟩
abbrev S3x512x1024 : Shape := ⟨3, ![3, 512, 1024]⟩
abbrev S8 : Shape := ⟨1, ![8]⟩
abbrev S3 : Shape := ⟨1, ![3]⟩
abbrev S1 : Shape := ⟨1, ![1]⟩
abbrev S_ : Shape := ⟨0, ![]⟩
abbrev S1x512x1024 : Shape := ⟨3, ![1, 512, 1024]⟩
abbrev S1x32 : Shape := ⟨2, ![1, 32]⟩
abbrev S2048x32 : Shape := ⟨2, ![2048, 32]⟩
abbrev S2048x2048 : Shape := ⟨2, ![2048, 2048]⟩
abbrev S2048 : Shape := ⟨1, ![2048]⟩
abbrev S1x512 : Shape := ⟨2, ![1, 512]⟩
abbrev S512x512 : Shape := ⟨2, ![512, 512]⟩
abbrev S64x512 : Shape := ⟨2, ![64, 512]⟩
abbrev S64x1024 : Shape := ⟨2, ![64, 1024]⟩

abbrev nBuf : Space → Nat
  | .hbm => 5
  | .vmem => 8
  | .smem => 0
  | _ => 0

abbrev bufTy : (tb : Table) → Fin (tcTables nBuf tb) → BufTy
  | .hbm, ⟨0, _⟩ => ⟨S2048x512, .f32⟩
  | .hbm, ⟨1, _⟩ => ⟨S512x32, .f32⟩
  | .hbm, ⟨2, _⟩ => ⟨S2048x1, .i32⟩
  | .hbm, ⟨3, _⟩ => ⟨S8x512x1024, .f32⟩
  | .hbm, ⟨4, _⟩ => ⟨S512x1024, .f32⟩
  | .local _ .vmem, ⟨0, _⟩ => ⟨S2048x512, .f32⟩
  | .local _ .vmem, ⟨1, _⟩ => ⟨S2048x1, .i32⟩
  | .local _ .vmem, ⟨2, _⟩ => ⟨S512x1024, .f32⟩
  | .local _ .vmem, ⟨3, _⟩ => ⟨S2048x512, .bf16⟩
  | .local _ .vmem, ⟨4, _⟩ => ⟨S8x512x1024, .f32⟩
  | .local _ .vmem, ⟨5, _⟩ => ⟨S512x1024, .bf16⟩
  | .local _ .vmem, ⟨6, _⟩ => ⟨S3x512x1024, .bf16⟩
  | .local _ .vmem, ⟨7, _⟩ => ⟨S3x512x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_50 : BitVec 32 := 1#32
  let v52 : BitVec 32 := Scalar.addi v2 c1_i32_50
  let c4_i32_51 : BitVec 32 := 4#32
  let c0_i32_52 : BitVec 32 := 0#32
  let v53 : BitVec 1 := Scalar.cmpi .eq c4_i32_51 c0_i32_52
  let c1_i32_53 : BitVec 32 := 1#32
  let v54 : BitVec 32 := Scalar.select v53 c1_i32_53 c4_i32_51
  let v55 : BitVec 32 := Scalar.remsi v52 v54
  let c0_i32_55 : BitVec 32 := 0#32
  let v57 : BitVec 1 := Scalar.cmpi .slt v55 c0_i32_55
  let c0_i32_56 : BitVec 32 := 0#32
  let v58 : BitVec 1 := Scalar.cmpi .slt v54 c0_i32_56
  let v59 : BitVec 1 := Scalar.xori v57 v58
  let c0_i32_54 : BitVec 32 := 0#32
  let v56 : BitVec 1 := Scalar.cmpi .ne v55 c0_i32_54
  let v60 : BitVec 1 := Scalar.andi v59 v56
  let v61 : BitVec 32 := Scalar.addi v55 v54
  let v62 : BitVec 32 := Scalar.select v60 v61 v55
  let c1_i32_58 : BitVec 32 := 1#32
  let v63 : BitVec 32 := Scalar.muli v62 c1_i32_58
  let v64 : BitVec 32 := Scalar.addi c0_i32_59 v63
  v64.toNat
def k0_dev2 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_60 : BitVec 32 := 2#32
  let v65 : BitVec 32 := Scalar.addi v2 c2_i32_60
  let c4_i32_61 : BitVec 32 := 4#32
  let c0_i32_62 : BitVec 32 := 0#32
  let v66 : BitVec 1 := Scalar.cmpi .eq c4_i32_61 c0_i32_62
  let c1_i32_63 : BitVec 32 := 1#32
  let v67 : BitVec 32 := Scalar.select v66 c1_i32_63 c4_i32_61
  let v68 : BitVec 32 := Scalar.remsi v65 v67
  let c0_i32_65 : BitVec 32 := 0#32
  let v70 : BitVec 1 := Scalar.cmpi .slt v68 c0_i32_65
  let c0_i32_66 : BitVec 32 := 0#32
  let v71 : BitVec 1 := Scalar.cmpi .slt v67 c0_i32_66
  let v72 : BitVec 1 := Scalar.xori v70 v71
  let c0_i32_64 : BitVec 32 := 0#32
  let v69 : BitVec 1 := Scalar.cmpi .ne v68 c0_i32_64
  let v73 : BitVec 1 := Scalar.andi v72 v69
  let v74 : BitVec 32 := Scalar.addi v68 v67
  let v75 : BitVec 32 := Scalar.select v73 v74 v68
  let c1_i32_68 : BitVec 32 := 1#32
  let v76 : BitVec 32 := Scalar.muli v75 c1_i32_68
  let v77 : BitVec 32 := Scalar.addi c0_i32_69 v76
  v77.toNat
def k0_dev3 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_70 : BitVec 32 := 3#32
  let v78 : BitVec 32 := Scalar.addi v2 c3_i32_70
  let c4_i32_71 : BitVec 32 := 4#32
  let c0_i32_72 : BitVec 32 := 0#32
  let v79 : BitVec 1 := Scalar.cmpi .eq c4_i32_71 c0_i32_72
  let c1_i32_73 : BitVec 32 := 1#32
  let v80 : BitVec 32 := Scalar.select v79 c1_i32_73 c4_i32_71
  let v81 : BitVec 32 := Scalar.remsi v78 v80
  let c0_i32_75 : BitVec 32 := 0#32
  let v83 : BitVec 1 := Scalar.cmpi .slt v81 c0_i32_75
  let c0_i32_76 : BitVec 32 := 0#32
  let v84 : BitVec 1 := Scalar.cmpi .slt v80 c0_i32_76
  let v85 : BitVec 1 := Scalar.xori v83 v84
  let c0_i32_74 : BitVec 32 := 0#32
  let v82 : BitVec 1 := Scalar.cmpi .ne v81 c0_i32_74
  let v86 : BitVec 1 := Scalar.andi v85 v82
  let v87 : BitVec 32 := Scalar.addi v81 v80
  let v88 : BitVec 32 := Scalar.select v86 v87 v81
  let c1_i32_78 : BitVec 32 := 1#32
  let v89 : BitVec 32 := Scalar.muli v88 c1_i32_78
  let v90 : BitVec 32 := Scalar.addi c0_i32_79 v89
  v90.toNat
def k0_off1 (d0 : Dev nD) (c1_i32_191 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v298 : BitVec 32 := Scalar.addi v2 c1_i32_191
  let c4_i32_192 : BitVec 32 := 4#32
  let c0_i32_193 : BitVec 32 := 0#32
  let v299 : BitVec 1 := Scalar.cmpi .eq c4_i32_192 c0_i32_193
  let c1_i32_194 : BitVec 32 := 1#32
  let v300 : BitVec 32 := Scalar.select v299 c1_i32_194 c4_i32_192
  let v301 : BitVec 32 := Scalar.remsi v298 v300
  let c0_i32_196 : BitVec 32 := 0#32
  let v303 : BitVec 1 := Scalar.cmpi .slt v301 c0_i32_196
  let c0_i32_197 : BitVec 32 := 0#32
  let v304 : BitVec 1 := Scalar.cmpi .slt v300 c0_i32_197
  let v305 : BitVec 1 := Scalar.xori v303 v304
  let c0_i32_195 : BitVec 32 := 0#32
  let v302 : BitVec 1 := Scalar.cmpi .ne v301 c0_i32_195
  let v306 : BitVec 1 := Scalar.andi v305 v302
  let v307 : BitVec 32 := Scalar.addi v301 v300
  let v308 : BitVec 32 := Scalar.select v306 v307 v301
  let c512_i32 : BitVec 32 := 512#32
  let v309 : BitVec 32 := Scalar.muli v308 c512_i32
  let v310 : Index := Scalar.indexCast v309
  let c0_198 : Index := 0#32
  ![v310.toNat, 0]
def k0_dev4 (d0 : Dev nD) : Nat :=
  let c0_i32_210 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_191 : BitVec 32 := 1#32
  let v298 : BitVec 32 := Scalar.addi v2 c1_i32_191
  let c4_i32_192 : BitVec 32 := 4#32
  let c0_i32_193 : BitVec 32 := 0#32
  let v299 : BitVec 1 := Scalar.cmpi .eq c4_i32_192 c0_i32_193
  let c1_i32_194 : BitVec 32 := 1#32
  let v300 : BitVec 32 := Scalar.select v299 c1_i32_194 c4_i32_192
  let v301 : BitVec 32 := Scalar.remsi v298 v300
  let c0_i32_196 : BitVec 32 := 0#32
  let v303 : BitVec 1 := Scalar.cmpi .slt v301 c0_i32_196
  let c0_i32_197 : BitVec 32 := 0#32
  let v304 : BitVec 1 := Scalar.cmpi .slt v300 c0_i32_197
  let v305 : BitVec 1 := Scalar.xori v303 v304
  let c0_i32_195 : BitVec 32 := 0#32
  let v302 : BitVec 1 := Scalar.cmpi .ne v301 c0_i32_195
  let v306 : BitVec 1 := Scalar.andi v305 v302
  let v307 : BitVec 32 := Scalar.addi v301 v300
  let v308 : BitVec 32 := Scalar.select v306 v307 v301
  let c1_i32_209 : BitVec 32 := 1#32
  let v318 : BitVec 32 := Scalar.muli v308 c1_i32_209
  let v319 : BitVec 32 := Scalar.addi c0_i32_210 v318
  v319.toNat
def k0_dev5 (d0 : Dev nD) : Nat :=
  let c0_i32_235 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_215 : BitVec 32 := 2#32
  let v328 : BitVec 32 := Scalar.addi v2 c2_i32_215
  let c4_i32_216 : BitVec 32 := 4#32
  let c0_i32_217 : BitVec 32 := 0#32
  let v329 : BitVec 1 := Scalar.cmpi .eq c4_i32_216 c0_i32_217
  let c1_i32_218 : BitVec 32 := 1#32
  let v330 : BitVec 32 := Scalar.select v329 c1_i32_218 c4_i32_216
  let v331 : BitVec 32 := Scalar.remsi v328 v330
  let c0_i32_220 : BitVec 32 := 0#32
  let v333 : BitVec 1 := Scalar.cmpi .slt v331 c0_i32_220
  let c0_i32_221 : BitVec 32 := 0#32
  let v334 : BitVec 1 := Scalar.cmpi .slt v330 c0_i32_221
  let v335 : BitVec 1 := Scalar.xori v333 v334
  let c0_i32_219 : BitVec 32 := 0#32
  let v332 : BitVec 1 := Scalar.cmpi .ne v331 c0_i32_219
  let v336 : BitVec 1 := Scalar.andi v335 v332
  let v337 : BitVec 32 := Scalar.addi v331 v330
  let v338 : BitVec 32 := Scalar.select v336 v337 v331
  let c1_i32_234 : BitVec 32 := 1#32
  let v348 : BitVec 32 := Scalar.muli v338 c1_i32_234
  let v349 : BitVec 32 := Scalar.addi c0_i32_235 v348
  v349.toNat
def k0_dev6 (d0 : Dev nD) : Nat :=
  let c0_i32_260 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_240 : BitVec 32 := 3#32
  let v358 : BitVec 32 := Scalar.addi v2 c3_i32_240
  let c4_i32_241 : BitVec 32 := 4#32
  let c0_i32_242 : BitVec 32 := 0#32
  let v359 : BitVec 1 := Scalar.cmpi .eq c4_i32_241 c0_i32_242
  let c1_i32_243 : BitVec 32 := 1#32
  let v360 : BitVec 32 := Scalar.select v359 c1_i32_243 c4_i32_241
  let v361 : BitVec 32 := Scalar.remsi v358 v360
  let c0_i32_245 : BitVec 32 := 0#32
  let v363 : BitVec 1 := Scalar.cmpi .slt v361 c0_i32_245
  let c0_i32_246 : BitVec 32 := 0#32
  let v364 : BitVec 1 := Scalar.cmpi .slt v360 c0_i32_246
  let v365 : BitVec 1 := Scalar.xori v363 v364
  let c0_i32_244 : BitVec 32 := 0#32
  let v362 : BitVec 1 := Scalar.cmpi .ne v361 c0_i32_244
  let v366 : BitVec 1 := Scalar.andi v365 v362
  let v367 : BitVec 32 := Scalar.addi v361 v360
  let v368 : BitVec 32 := Scalar.select v366 v367 v361
  let c1_i32_259 : BitVec 32 := 1#32
  let v378 : BitVec 32 := Scalar.muli v368 c1_i32_259
  let v379 : BitVec 32 := Scalar.addi c0_i32_260 v378
  v379.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_265 : BitVec 32 := 512#32
  let v388 : BitVec 32 := Scalar.muli v2 c512_i32_265
  let v389 : Index := Scalar.indexCast v388
  let c0_266 : Index := 0#32
  ![v389.toNat, 0]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x512 : Shape := ⟨2, ![2048, 512]⟩
abbrev S512x32 : Shape := ⟨2, ![512, 32]⟩
abbrev S2048x1 : Shape := ⟨2, ![2048, 1]⟩
abbrev S32x512x1024 : Shape := ⟨3, ![32, 512, 1024]⟩
abbrev S2048 : Shape := ⟨1, ![2048]⟩
abbrev S1x2048 : Shape := ⟨2, ![1, 2048]⟩
abbrev S2048x2048 : Shape := ⟨2, ![2048, 2048]⟩
abbrev S_ : Shape := ⟨0, ![]⟩
abbrev S2048x512x1024 : Shape := ⟨3, ![2048, 512, 1024]⟩
abbrev S2048x1024 : Shape := ⟨2, ![2048, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x32, .f32⟩
  | .hbm, ⟨2, _⟩ => ⟨S2048x1, .i32⟩
  | .hbm, ⟨3, _⟩ => ⟨S32x512x1024, .f32⟩
  | .hbm, ⟨4, _⟩ => ⟨S2048, .i32⟩
  | .hbm, ⟨5, _⟩ => ⟨S2048, .i32⟩
  | .hbm, ⟨6, _⟩ => ⟨S1x2048, .i32⟩
  | .hbm, ⟨7, _⟩ => ⟨S2048x1, .i32⟩
  | .hbm, ⟨8, _⟩ => ⟨S2048x2048, .i32⟩
  | .hbm, ⟨9, _⟩ => ⟨S2048x2048, .i32⟩
  | .hbm, ⟨10, _⟩ => ⟨S2048x2048, .i1⟩
  | .hbm, ⟨11, _⟩ => ⟨S1x2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S2048x2048, .i1⟩
  | .hbm, ⟨17, _⟩ => ⟨S2048x2048, .i32⟩
  | .hbm, ⟨18, _⟩ => ⟨S_, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S2048, .i1⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S2048, .i1⟩
  | .hbm, ⟨31, _⟩ => ⟨S_, .i32⟩
  | .hbm, ⟨32, _⟩ => ⟨S2048, .i32⟩
  | .hbm, ⟨33, _⟩ => ⟨S2048, .i1⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .i32⟩
  | .hbm, ⟨38, _⟩ => ⟨S2048x1, .i32⟩
  | .hbm, ⟨39, _⟩ => ⟨S2048x512x1024, .f32⟩
  | .hbm, ⟨40, _⟩ => ⟨S2048x1024, .f32⟩
  | .hbm, ⟨41, _⟩ => ⟨S2048x1, .i1⟩
  | .hbm, ⟨42, _⟩ => ⟨S_, .f32⟩
  | .hbm, ⟨43, _⟩ => ⟨S_, .f32⟩
  | .hbm, ⟨44, _⟩ => ⟨S2048x1024, .i1⟩
  | .hbm, ⟨45, _⟩ => ⟨S2048x1024, .f32⟩
  | .hbm, ⟨46, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_3 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Proof.RunKernelIdeal.Contents.lean ====
/-
What every buffer of the kernel holds, as functions of the launch memory.

Device `c` computes one gather/scatter matrix (tokens against its 512 slots), gathers its slots' tokens, multiplies
each expert's 64 slots by that expert's weight, and scatters the result back to the four chunks of 512 tokens: its own
chunk stays, the other three are sent. Everything here is generic in the float instance.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.ValueIdxCore

@[expose] public section

noncomputable section

namespace Cert.KernelIdealRun

open Cert.KernelIdeal Cert.KernelIdeal.Gen

open Idealize.ShloMosaic
open Idealize.ShloMosaic.TcCoe
open Idealize.ShloMosaic.ValueIdx (ix2)
open Idealize.SL.Sem

variable {F : FTy → Type} [FloatOps F]

/-! ## The memrefs -/

/-- The tokens, staged whole. -/
abbrev xM : Memref sig .tc .vmem S2048x512 .f32 := Memref.whole cc0_stg0_0
/-- The experts asked for, staged whole. -/
abbrev eM : Memref sig .tc .vmem S2048x1 .i32 := Memref.whole cc0_stg1_0
/-- The result's staging buffer. -/
abbrev oM : Memref sig .tc .vmem S512x1024 .f32 := Memref.whole cc0_stg2_0
/-- The device's eight weights, in the argument. -/
abbrev hM : Memref sig .tc .hbm S8x512x1024 .f32 := Memref.whole main_arg3
/-- The scratch of the matrix that gathers and scatters. -/
abbrev gM : Memref sig .tc .vmem S2048x512 .bf16 := Memref.whole cc0_scratch0
/-- The scratch of the eight weights. -/
abbrev wM : Memref sig .tc .vmem S8x512x1024 .f32 := Memref.whole cc0_scratch1
/-- The scratch of the slots' results. -/
abbrev yM : Memref sig .tc .vmem S512x1024 .bf16 := Memref.whole cc0_scratch2
/-- The scratch of the three chunks to send. -/
abbrev sM : Memref sig .tc .vmem S3x512x1024 .bf16 := Memref.whole cc0_scratch3
/-- The scratch of the three chunks received. -/
abbrev rM : Memref sig .tc .vmem S3x512x1024 .bf16 := Memref.whole cc0_scratch4

/-- A weight's place lies inside the eight. -/
theorem r8_inb (j : Fin 8) : ∀ a, (![j.val, 0, 0] : Fin 3 → Nat) a + S1x512x1024.size a ≤ S8x512x1024.size a := by
  revert j; decide
/-- A chunk's place lies inside the three. -/
theorem r3_inb (j : Fin 3) : ∀ a, (![j.val, 0, 0] : Fin 3 → Nat) a + S1x512x1024.size a ≤ S3x512x1024.size a := by
  revert j; decide
/-- An expert's 64 rows lie inside the 512. -/
theorem ry_inb (j : Fin 8) : ∀ a, (![64 * j.val, 0] : Fin 2 → Nat) a + S64x1024.size a ≤ S512x1024.size a := by
  revert j; decide

/-- Expert slot `j` of an array of eight weights. -/
abbrev r8 (j : Fin 8) : Rect S8x512x1024 := Rect.unit (s := S8x512x1024) ![j.val, 0, 0] S1x512x1024.size (r8_inb j)
/-- Slot `j` of an array of three chunks. -/
abbrev r3 (j : Fin 3) : Rect S3x512x1024 := Rect.unit (s := S3x512x1024) ![j.val, 0, 0] S1x512x1024.size (r3_inb j)
/-- Rows `64 j … 64 j + 63`. -/
abbrev ry (j : Fin 8) : Rect S512x1024 := Rect.unit (s := S512x1024) ![64 * j.val, 0] S64x1024.size (ry_inb j)

/-- Slot `j` of a memref of eight weights, as the copies name it. -/
abbrev slot8 {cs : Space} (M : Memref sig .tc cs S8x512x1024 .f32) (j : Fin 8) : Memref sig .tc cs S512x1024 .f32 :=
  (M.slice (r8 j) (fun _ => rfl)).squeeze S512x1024 squeezes_S1x512x1024_S512x1024
/-- Slot `j` of a memref of three chunks, as the transfers name it. -/
abbrev slot3 (M : Memref sig .tc .vmem S3x512x1024 .bf16) (j : Fin 3) : Memref sig .tc .vmem S512x1024 .bf16 :=
  (M.slice (r3 j) (fun _ => rfl)).squeeze S512x1024 squeezes_S1x512x1024_S512x1024

/-! ## Contents -/

variable (m : (ℓ : Loc nD τ sig) → Buf (Elt F) ℓ)

/-- The tokens, as staged. -/
def xAt (c : Dev nD) : (cc0_stg0_0 : Ref sig .tc).ty.Contents (Elt F) :=
  (win0_0.blk (0 : Fin 1)).view.read (Elt F) (m ((c : Thread nD τ).loc main_arg0))
/-- Each token's expert, as staged. -/
def eAt (c : Dev nD) : (cc0_stg1_0 : Ref sig .tc).ty.Contents (Elt F) :=
  (win0_1.blk (0 : Fin 1)).view.read (Elt F) (m ((c : Thread nD τ).loc main_arg2))
/-- Weight `j` of the eight the device holds. -/
def wAt (c : Dev nD) (j : Fin 8) : Vec F S1x512x1024 .f32 :=
  (hM).view.readAt (Elt F) (r8 j).toLoadRect (m ((c : Thread nD τ).loc main_arg3))

/-- The first expert of device `c`'s eight, as the kernel computes it. -/
abbrev firstOf (c : Dev nD) : BitVec 32 := Scalar.muli (Scalar.remsi (Scalar.divsi (Dev.word c) 1#32) 4#32) 8#32
/-- The sign word of the divisor 64. -/
abbrev sgn64 : BitVec 32 := Scalar.subi (Scalar.extui (Scalar.cmpi .sgt 64#32 0#32)) (Scalar.extui (Scalar.cmpi .slt 64#32 0#32))

/-- The matrix of tokens against slots as computed. -/
def gv (c : Dev nD) : FVec F S2048x512 .bf16 :=
  k0_pay5 (k0_pay1 (eAt m c)) (k0_pay2 (eAt m c)) (iota .tc S1x512 32 [1] iota_S1x512_d1_w32) (firstOf c) 64#32 k0_pay3 k0_pay4 sgn64
/-- The matrix as stored. -/
def gAt (c : Dev nD) : Vec F S2048x512 .bf16 :=
  k0_pay6 (k0_pay1 (eAt m c)) (k0_pay2 (eAt m c)) (iota .tc S1x512 32 [1] iota_S1x512_d1_w32) (firstOf c) 64#32 k0_pay3 k0_pay4 sgn64
/-- The slots' tokens. -/
def xg (c : Dev nD) : FVec F S512x512 .bf16 := k0_pay7 (gv m c) (xAt m c)

/-- The 64 rows of expert `j`: its slots' tokens by its weight. -/
def yPay (c : Dev nD) : Fin 8 → FVec F S64x1024 .bf16
  | 0 => k0_pay8 (gv m c) (xAt m c) (wAt m c 0)
  | 1 => k0_pay10 (k0_pay9 (gv m c) (xAt m c) (wAt m c 1))
  | 2 => k0_pay11 (xg m c) (wAt m c 2)
  | 3 => k0_pay13 (k0_pay12 (xg m c) (wAt m c 3))
  | 4 => k0_pay14 (xg m c) (wAt m c 4)
  | 5 => k0_pay16 (k0_pay15 (xg m c) (wAt m c 5))
  | 6 => k0_pay17 (xg m c) (wAt m c 6)
  | 7 => k0_pay19 (k0_pay18 (xg m c) (wAt m c 7))

/-- All 512 slots' rows. -/
def yAt (c : Dev nD) : Vec F S512x1024 .bf16 := fun i =>
  yPay m c ⟨(i 0).val / 64, by have h : (i 0).val < 512 := (i 0).isLt; omega⟩
    (ix2 ⟨(i 0).val % 64, Nat.mod_lt _ (by decide)⟩ ⟨(i 1).val, (i 1).isLt⟩)

/-- The rows of the matrix for the chunk that send `i` carries. -/
def gChunk (c : Dev nD) (i : Fin 3) : Vec F S512x512 .bf16 :=
  (gM).view.readAt (Elt F)
    (Rect.unit (s := S2048x512) (k0_off1 c (BitVec.ofNat 32 (1 + i.val))) S512x512.size (k0_off1_inb c i)).toLoadRect (gAt m c)
/-- The rows of the matrix for the device's own chunk. -/
def gOwn (c : Dev nD) : Vec F S512x512 .bf16 :=
  (gM).view.readAt (Elt F) (Rect.unit (s := S2048x512) (k0_off2 c) S512x512.size (k0_off2_inb c)).toLoadRect (gAt m c)

/-- What send `i` of device `c` carries. -/
def sendVal (c : Dev nD) : Fin 3 → Vec F S1x512x1024 .bf16
  | 0 => k0_pay20 (gChunk m c 0) (yAt m c)
  | 1 => k0_pay21 (gChunk m c 1) (yAt m c)
  | 2 => k0_pay22 (gChunk m c 2) (yAt m c)

/-- Device `c + (j + 1)` around the four. -/
def fwd (c : Dev nD) (j : Fin 3) : Dev nD := ⟨(c.val + (j.val + 1)) % 4, Nat.mod_lt _ (by decide)⟩

/-- What arrives in receive slot `j` of device `c`. -/
def recvVal (c : Dev nD) (j : Fin 3) : Vec F S1x512x1024 .bf16 := sendVal m (fwd c j) (Fin.rev j)

/-- The kernel's result on device `c`. -/
def outAt (c : Dev nD) : Vec F S512x1024 .f32 :=
  k0_pay24 (k0_pay23 (gOwn m c) (yAt m c) (recvVal m c 2) (recvVal m c 1)) (recvVal m c 0)

end Cert.KernelIdealRun

end
-- ==== Proof.RunKernelIdeal.Protocol.lean ====
/-
The protocol of the kernel's semaphores, as a schedule of the rounds library.

Each device has seven cells: the barrier, three send cells, three receive cells; every cell has one round. Device `c`'s
barrier cell is paid by the three others, one unit each: payer `d` of duty `j` (the device with `fwd d j = c`) hands over
its own receive slot `j`, which `c` then fills. A receive cell is paid by the one transfer into its slot and yields the
slot holding what was sent; a send cell is paid by the same transfer and yields the sent slot back.
-/
module

public import proofs.«01_k».proof.Proof.RunKernelIdeal.Contents
public import Idealize.ShloMosaic.Lib.Pipeline.Launch
public import Idealize.ShloMosaic.Lib.Pipeline.Kit
public import Idealize.ShloMosaic.Lib.Tactic
public import Idealize.ShloMosaic.Lib.Transfers

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra: the staging pipeline's rounds, this protocol's rounds, and the local copies' counters -/

/-- The rounds of this protocol: its cells, three duties to a round at most. -/
abbrev UB : Type := URounds (GSem nD τ sig) (Fin 3)
/-- The three algebras together. -/
abbrev UU : Type := UR sig nD τ × (UB × Counters)

local notation "𝕄" => MT nD τ sig Unit (Elt F) ℕ UU ℕ

/-- The staging pipeline's rounds: the left factor. -/
abbrev EP : Emb (UR sig nD τ) (MT nD τ sig Unit (Elt F) ℕ UU ℕ) := embL
/-- This protocol's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
/-- This protocol's rounds lie in the part of the algebra that invariants may hold. -/
instance ER_landsIn : (ER : Emb UB 𝕄).LandsIn (upEmb : UEmb _ 𝕄) := by unfold ER; infer_instance
/-- The local copies' counters. -/
abbrev EC : UEmb Counters (MT nD τ sig Unit (Elt F) ℕ UU ℕ) := countersEmb

/-! ## The devices -/

/-- Going on by slot `rev j`'s distance and then by slot `j`'s leads back to the device. -/
theorem fwd_rev (c : Dev nD) (j : Fin 3) : fwd (fwd c (Fin.rev j)) j = c := by revert c j; decide
/-- Going on by slot `j`'s distance and then by slot `rev j`'s leads back to the device. -/
theorem fwd_rev' (c : Dev nD) (j : Fin 3) : fwd (fwd c j) (Fin.rev j) = c := by revert c j; decide
/-- The three peers of a device are different. -/
theorem fwd_inj (c : Dev nD) : Function.Injective (fwd c) := by revert c; decide

/-- The first signal goes to the next device. -/
theorem dev1_eq (c : Dev nD) : (⟨k0_dev1 c, k0_dev1_lt c⟩ : Dev nD) = fwd c 0 := by revert c; decide +kernel
/-- The second signal goes to the device after the next. -/
theorem dev2_eq (c : Dev nD) : (⟨k0_dev2 c, k0_dev2_lt c⟩ : Dev nD) = fwd c 1 := by revert c; decide +kernel
/-- The third signal goes three devices on. -/
theorem dev3_eq (c : Dev nD) : (⟨k0_dev3 c, k0_dev3_lt c⟩ : Dev nD) = fwd c 2 := by revert c; decide +kernel
/-- The first send goes to the next device. -/
theorem dev4_eq (c : Dev nD) : (⟨k0_dev4 c, k0_dev4_lt c⟩ : Dev nD) = fwd c 0 := by revert c; decide +kernel
/-- The second send goes to the device after the next. -/
theorem dev5_eq (c : Dev nD) : (⟨k0_dev5 c, k0_dev5_lt c⟩ : Dev nD) = fwd c 1 := by revert c; decide +kernel
/-- The third send goes three devices on. -/
theorem dev6_eq (c : Dev nD) : (⟨k0_dev6 c, k0_dev6_lt c⟩ : Dev nD) = fwd c 2 := by revert c; decide +kernel

/-! ## The cells -/

/-- A place in an array of eight semaphores lies inside it. -/
theorem s8_inb (j : Fin 8) : ∀ a, (![j.val] : Fin 1 → Nat) a + S1.size a ≤ S8.size a := by revert j; decide
/-- A place in an array of three semaphores lies inside it. -/
theorem s3_inb (j : Fin 3) : ∀ a, (![j.val] : Fin 1 → Nat) a + S1.size a ≤ S3.size a := by revert j; decide

/-- The barrier semaphore. -/
abbrev barS : Sem sig := (SemArray.scalar (sig.barrier 0 rfl) : Sems sig S_).sem
/-- The semaphore of local copy `j`. -/
abbrev wsem (j : Fin 8) : DmaSem sig := ((cc0_scratch5.slice (Rect.unit (s := S8) ![j.val] S1.size (s8_inb j))).squeeze S_ squeezes_S1_S_).sem
/-- The semaphore of send `i`. -/
abbrev ssem (i : Fin 3) : DmaSem sig := ((cc0_scratch6.slice (Rect.unit (s := S3) ![i.val] S1.size (s3_inb i))).squeeze S_ squeezes_S1_S_).sem
/-- The semaphore of receive slot `j`. -/
abbrev rsem (j : Fin 3) : DmaSem sig := ((cc0_scratch7.slice (Rect.unit (s := S3) ![j.val] S1.size (s3_inb j))).squeeze S_ squeezes_S1_S_).sem

/-- The copies' semaphores are numbered from 3. -/
theorem wsem_val (j : Fin 8) : (wsem j).val = 3 + j.val := by revert j; decide
/-- The sends' semaphores are numbered from 11. -/
theorem ssem_val (i : Fin 3) : (ssem i).val = 11 + i.val := by revert i; decide
/-- The receive slots' semaphores are numbered from 14. -/
theorem rsem_val (j : Fin 3) : (rsem j).val = 14 + j.val := by revert j; decide

/-- A device's cell: the barrier (`none`), a send cell (`false`), a receive cell (`true`). -/
abbrev CK : Type := Option (Bool × Fin 3)

/-- A cell's semaphore. -/
def csem : CK → SemLoc sig
  | none => .reg barS
  | some (false, i) => .dma (ssem i)
  | some (true, j) => .dma (rsem j)

/-- Different cells have different semaphores. -/
theorem csem_injective : Function.Injective csem := by
  rintro (_ | ⟨b, i⟩) (_ | ⟨b', i'⟩) h
  · rfl
  · cases b' <;> exact absurd h (fun h => by cases h)
  · cases b <;> exact absurd h (fun h => by cases h)
  · have hv : ∀ q q' : DmaSem sig, SemLoc.dma q = SemLoc.dma q' → q.val = q'.val := fun q q' h => congrArg Fin.val (SemLoc.dma.inj h)
    cases b <;> cases b' <;> have := hv _ _ h <;> simp only [ssem_val, rsem_val] at this
    · have : i = i' := Fin.ext (by omega)
      rw [this]
    · omega
    · omega
    · have : i = i' := Fin.ext (by omega)
      rw [this]

/-- A local copy's semaphore is none of the protocol's. -/
theorem wsem_not_csem (j : Fin 8) (k : CK) : (SemLoc.dma (wsem j) : SemLoc sig) ≠ csem k := by
  rcases k with _ | ⟨b, i⟩
  · exact fun h => by cases h
  · cases b <;> intro h <;> have := congrArg Fin.val (SemLoc.dma.inj h) <;> simp only [wsem_val, ssem_val, rsem_val] at this <;> omega

/-- Which cell of the protocol a semaphore is. -/
def code (s : SemLoc sig) : Option CK := open Classical in if h : ∃ k, csem k = s then some h.choose else none

/-- A cell's semaphore is read as that cell. -/
theorem code_csem (k : CK) : code (csem k) = some k := by
  have h : ∃ k', csem k' = csem k := ⟨k, rfl⟩
  unfold code; rw [dif_pos h, csem_injective h.choose_spec]
/-- A semaphore of no cell is read as none. -/
theorem code_none (s : SemLoc sig) (h : ∀ k, s ≠ csem k) : code s = none := by
  unfold code; exact dif_neg (fun ⟨k, hk⟩ => h k hk.symm)

/-- A cell of a device. -/
abbrev kcell (ck : Dev nD × CK) : GSem nD τ sig := ((ck.1 : Thread nD τ), csem ck.2)
/-- A device's barrier cell. -/
abbrev barCell (c : Dev nD) : GSem nD τ sig := kcell (c, none)
/-- A device's send cell `i`. -/
abbrev sendCell (c : Dev nD) (i : Fin 3) : GSem nD τ sig := kcell (c, some (false, i))
/-- A device's receive cell `j`. -/
abbrev recvCell (c : Dev nD) (j : Fin 3) : GSem nD τ sig := kcell (c, some (true, j))

/-- Different cells, of whichever devices, are different. -/
theorem kcell_injective : Function.Injective (kcell : Dev nD × CK → GSem nD τ sig) := by
  rintro ⟨c, k⟩ ⟨c', k'⟩ h
  have h1 : c = c' := congrArg (fun g : GSem nD τ sig => g.1.1) h
  subst h1
  exact Prod.ext rfl (csem_injective (congrArg Prod.snd h))

/-- The credit of one chunk's transfer. -/
abbrev N : ℕ := (slot3 rM 0).view.dmaCredit
/-- A transfer's credit is not zero. -/
theorem N_pos : 0 < N := View.dmaCredit_pos _ (by decide)

/-! ## The schedule -/

variable (m : (ℓ : Loc nD τ sig) → Buf (Elt F) ℓ)

/-- Receive slot `j` of device `c` at contents `f`. -/
def rPts (c : Dev nD) (j : Fin 3) (f : Buf (Elt F) ((slot3 rM j).view.loc (c : Thread nD τ))) : sProp 𝕄 :=
  (slot3 rM j).view.loc (c : Thread nD τ) ↦[(slot3 rM j).view.set]{fullShare} f
/-- Send slot `i` of device `c` at contents `f`. -/
def sPts (c : Dev nD) (i : Fin 3) (f : Buf (Elt F) ((slot3 sM i).view.loc (c : Thread nD τ))) : sProp 𝕄 :=
  (slot3 sM i).view.loc (c : Thread nD τ) ↦[(slot3 sM i).view.set]{fullShare} f

omit [FloatOps F] in
/-- A receive slot may be handed over. -/
instance rPts_storable (c : Dev nD) (j : Fin 3) (f) : BI.Storable (upEmb : UEmb _ 𝕄) (rPts (F := F) c j f) := by unfold rPts; infer_instance
omit [FloatOps F] in
/-- A send slot may be handed over. -/
instance sPts_storable (c : Dev nD) (i : Fin 3) (f) : BI.Storable (upEmb : UEmb _ 𝕄) (sPts (F := F) c i f) := by unfold sPts; infer_instance

/-- A receive slot with the values `v`. -/
def rHas (c : Dev nD) (j : Fin 3) (v : Vec F S1x512x1024 .bf16) : sProp 𝕄 :=
  iprop(∃ f, ⌜(rM).view.readAt (Elt F) (r3 j).toLoadRect f = v⌝ ∗ rPts c j f)

/-- What duty `j` of device `c`'s barrier cell hands it: the payer's receive slot `j`. -/
def barPay (c : Dev nD) (j : Fin 3) : sProp 𝕄 := iprop(∃ f, rPts (F := F) (fwd c (Fin.rev j)) j f)

/-- A cell's payload. -/
def payOf (c : Dev nD) (d : Fin 3) : Option CK → sProp 𝕄
  | some none => barPay c d
  | some (some (false, i)) => iprop(∃ f, sPts c i f)
  | some (some (true, j)) => rHas c j (recvVal m c j)
  | none => iprop(emp)

/-- A cell's duties. -/
def dutiesOf : Option CK → Finset (Fin 3)
  | some none => Finset.univ
  | some (some _) => {0}
  | none => ∅

/-- A duty's amount. -/
def amountOf : Option CK → ℕ
  | some none => 1
  | _ => N

/-- Every payload may be handed over. -/
instance payOf_storable (c : Dev nD) (d : Fin 3) (k : Option CK) : BI.Storable (upEmb : UEmb _ 𝕄) (payOf m c d k) := by
  unfold payOf
  split
  · unfold barPay; infer_instance
  · infer_instance
  · unfold rHas; infer_instance
  · infer_instance

/-- The schedule: one round at each cell, with its duties, amounts and payloads. -/
def xRd : Rounds.Schedule (GSem nD τ sig) (Fin 3) 𝕄 where
  duties g r := if r = 0 ∧ g.1.2 = .tc then dutiesOf (code g.2) else ∅
  unitless _ := False
  amount g _ _ := amountOf (code g.2)
  payload g _ d := payOf m g.1.1 d (code g.2)
  amount_pos g _ _ _ := by
    unfold amountOf
    split
    · exact Nat.one_pos
    · exact N_pos

/-- Every payload of the schedule may be handed over. -/
instance xRd_payload_storable (g : GSem nD τ sig) (r : ℕ) (d : Fin 3) :
    BI.Storable (upEmb : UEmb _ 𝕄) ((xRd (F := F) m).payload g r d) := payOf_storable m _ _ _

section Tables
variable (c : Dev nD)

/-- The duties of a cell's round. -/
theorem duties_kcell (k : CK) : (xRd (F := F) m).duties (kcell (c, k)) 0 = dutiesOf (some k) := by
  dsimp only [xRd]; rw [if_pos ⟨rfl, rfl⟩, code_csem]
/-- No cell has a duty after its first round. -/
theorem duties_later (g : GSem nD τ sig) : ∀ r, 1 ≤ r → (xRd (F := F) m).duties g r = ∅ :=
  fun r hr => by dsimp only [xRd]; exact if_neg fun h => by omega
/-- What a duty of a cell pays in. -/
theorem amount_kcell (k : CK) (d : Fin 3) : (xRd (F := F) m).amount (kcell (c, k)) 0 d = amountOf (some k) := by
  dsimp only [xRd]; rw [code_csem]
/-- What a duty of a cell hands over. -/
theorem payload_kcell (k : CK) (d : Fin 3) : (xRd (F := F) m).payload (kcell (c, k)) 0 d = payOf m c d (some k) := by
  dsimp only [xRd]; rw [code_csem]

/-- A barrier cell expects three units. -/
theorem expect_bar : (xRd (F := F) m).expect (barCell c) 0 = 3 := by
  unfold Schedule.expect Schedule.amountOf
  rw [duties_kcell, Finset.sum_congr rfl fun d _ => amount_kcell m c none d]
  rfl
/-- A send or receive cell expects one transfer's credit. -/
theorem expect_xfer (k : Bool × Fin 3) : (xRd (F := F) m).expect (kcell (c, some k)) 0 = N := by
  unfold Schedule.expect Schedule.amountOf
  rw [duties_kcell, Finset.sum_congr rfl fun d _ => amount_kcell m c (some k) d]
  exact Finset.sum_singleton _ _

/-- The barrier's round, no duty taken: the three receive slots. -/
theorem rest_bar : bigSep ((xRd (F := F) m).duties (barCell c) 0 \ ∅) (fun d => (xRd (F := F) m).payload (barCell c) 0 d)
    = iprop(barPay c 0 ∗ barPay c 1 ∗ barPay (F := F) c 2) := by
  rw [Finset.sdiff_empty, duties_kcell]
  show bigSep Finset.univ _ = _
  rw [bigSep_univ_eq_bigSepL [0, 1, 2] (by decide) (by decide), bigSepL_cons_cons, bigSepL_cons_cons, bigSepL_singleton,
    payload_kcell, payload_kcell, payload_kcell]
  rfl
/-- A send or receive cell's round: its one payload. -/
theorem rest_xfer (k : Bool × Fin 3) : bigSep ((xRd (F := F) m).duties (kcell (c, some k)) 0 \ ∅)
    (fun d => (xRd (F := F) m).payload (kcell (c, some k)) 0 d) = payOf m c 0 (some (some k)) := by
  rw [Finset.sdiff_empty, duties_kcell]
  show bigSep {0} _ = _
  rw [bigSep_singleton, payload_kcell]

end Tables

/-! ## What each device owes at launch; the levels -/

/-- The credit of send `i`, owed to the receive cell it lands on. -/
abbrev owR (c : Dev nD) (i : Fin 3) : CellTallies nD τ sig Unit := tallyAt (recvCell (fwd c i) (Fin.rev i)) () N
/-- The unit of signal `j`, owed to the barrier cell it reaches. -/
abbrev owB (c : Dev nD) (j : Fin 3) : CellTallies nD τ sig Unit := tallyAt (barCell (fwd c j)) () 1

/-- What is owed before the last send. -/
def OR2 (c : Dev nD) : CellTallies nD τ sig Unit := owR c 2
/-- What is owed before the second send. -/
def OR1 (c : Dev nD) : CellTallies nD τ sig Unit := OR2 c + owR c 1
/-- What is owed before the first send. -/
def OR0 (c : Dev nD) : CellTallies nD τ sig Unit := OR1 c + owR c 0
/-- What is owed before the last signal. -/
def OB2 (c : Dev nD) : CellTallies nD τ sig Unit := OR0 c + owB c 2
/-- What is owed before the second signal. -/
def OB1 (c : Dev nD) : CellTallies nD τ sig Unit := OB2 c + owB c 1
/-- All of it, summed in the order in which it is paid, last first. -/
def O₀ (c : Dev nD) : CellTallies nD τ sig Unit := OB1 c + owB c 0

/-- Every cell of a core has one level. -/
def L (g : GSem nD τ sig) : Finset Unit := if g.1.2 = .tc then {()} else ∅
/-- The level of a kind of cell. -/
def lvOf : Option CK → ℕ
  | some none => 1
  | some (some (true, _)) => 2
  | _ => 0
/-- Barrier cells at 1, receive cells at 2, every other cell at 0. -/
def lv (g : GSem nD τ sig) (_ : Unit) : ℕ := lvOf (code g.2)

/-- Cells of no core have no level. -/
theorem L_of_ne (g : GSem nD τ sig) (h : g.1.2 ≠ .tc) : L g = ∅ := if_neg h
/-- Cells of a core have their one level. -/
theorem L_tc (c : Dev nD) (sm : SemLoc sig) : L ((c : Thread nD τ), sm) = {()} := if_pos rfl
/-- The level of a cell of the protocol. -/
theorem lv_kcell (ck : Dev nD × CK) : lv (kcell ck) () = lvOf (some ck.2) := by unfold lv; rw [code_csem]

/-- Whatever the credits of the sends owe is at a receive cell. -/
theorem OR0_pos {c : Dev nD} {g : GSem nD τ sig} {u : Unit} (h : 0 < OR0 c g u) : ∃ d j, g = recvCell d j := by
  unfold OR0 OR1 OR2 at h
  simp only [Pi.add_apply, Finsupp.add_apply, tallyAt_apply] at h
  by_contra hn
  rw [if_neg (fun h' => hn ⟨_, _, h'.1⟩), if_neg (fun h' => hn ⟨_, _, h'.1⟩), if_neg (fun h' => hn ⟨_, _, h'.1⟩)] at h
  exact Nat.lt_irrefl 0 h
/-- Whatever is owed at launch is at a receive cell or a barrier cell. -/
theorem O₀_pos {c : Dev nD} {g : GSem nD τ sig} {u : Unit} (h : 0 < O₀ c g u) :
    (∃ d j, g = recvCell d j) ∨ ∃ d, g = barCell d := by
  by_contra hn
  rw [not_or] at hn
  have h0 : ¬ 0 < OR0 c g u := fun h' => hn.1 (OR0_pos h')
  unfold O₀ OB1 OB2 at h
  simp only [Pi.add_apply, Finsupp.add_apply, tallyAt_apply] at h
  rw [if_neg (fun h' => hn.2 ⟨_, h'.1⟩), if_neg (fun h' => hn.2 ⟨_, h'.1⟩), if_neg (fun h' => hn.2 ⟨_, h'.1⟩)] at h
  exact h0 h

/-- A cell at level 0 may be waited on under everything owed at launch. -/
theorem mayWait_low (c : Dev nD) (sm : SemLoc sig) (hs : lvOf (code sm) = 0) (O : CellTallies nD τ sig Unit)
    (hO : ∀ g u, 0 < O g u → (∃ d j, g = recvCell d j) ∨ ∃ d, g = barCell d) :
    (levAts L lv : sProp 𝕄) ⊢ MayWait (c : Thread nD τ) sm () O :=
  MayOwe.of_cut (L := L) (lev := lv) 0 (fun p hp => by rw [Finset.mem_singleton.mp hp, L_tc]; exact Finset.mem_singleton_self _)
    (fun g u hg => by rcases hO g u hg with ⟨d, j, rfl⟩ | ⟨d, rfl⟩ <;> exact Finset.mem_singleton_self _)
    (fun p hp => by rw [Finset.mem_singleton.mp hp]; exact le_of_eq hs)
    (fun g u hg => by
      rcases hO g u hg with ⟨d, j, rfl⟩ | ⟨d, rfl⟩
      · rw [show lv (recvCell d j) u = 2 from lv_kcell (d, some (true, j))]; decide
      · rw [show lv (barCell d) u = 1 from lv_kcell (d, none)]; decide)

/-- The barrier may be waited on under the sends' credits. -/
theorem mayWait_bar (c : Dev nD) : (levAts L lv : sProp 𝕄) ⊢ MayWait (c : Thread nD τ) (csem none) () (OR0 c) :=
  MayOwe.of_cut (L := L) (lev := lv) 1 (fun p hp => by rw [Finset.mem_singleton.mp hp, L_tc]; exact Finset.mem_singleton_self _)
    (fun g u hg => by obtain ⟨d, j, rfl⟩ := OR0_pos hg; exact Finset.mem_singleton_self _)
    (fun p hp => by rw [Finset.mem_singleton.mp hp]; exact le_of_eq (lv_kcell (c, none)))
    (fun g u hg => by
      obtain ⟨d, j, rfl⟩ := OR0_pos hg
      rw [show lv (recvCell d j) u = 2 from lv_kcell (d, some (true, j))]; decide)

/-- A local copy may be waited on under the sends' credits. -/
theorem mayWait_copy (c : Dev nD) (j : Fin 8) : (levAts L lv : sProp 𝕄) ⊢ MayWait (c : Thread nD τ) (.dma (wsem j)) () (OR0 c) :=
  mayWait_low c _ (by rw [code_none _ (wsem_not_csem j)]; rfl) _ (fun g u hg => .inl (OR0_pos hg))

end Cert.KernelIdealRun

end
-- ==== Proof.RunKernelIdeal.Slots.lean ====
/-
The buffers cut into their slots, and what a slot holds after a copy, a transfer or a store.
-/
module

public import proofs.«01_k».proof.Proof.RunKernelIdeal.Protocol
public import Idealize.ShloMosaic.Lib.Ring.FamCut
public import Idealize.ShloMosaic.Lib.Exec.Geometry
public import Idealize.ShloMosaic.Lib.Pipeline.Value

@[expose] public section

noncomputable section

namespace Cert.KernelIdealRun

open Cert.KernelIdeal Cert.KernelIdeal.Gen

open Idealize.ShloMosaic
open Idealize.ShloMosaic.TcCoe
open Idealize.ShloMosaic.ValueIdx (ix2)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Disjoint slots -/

/-- Different weights' places do not meet. -/
theorem r8_disj (j j' : Fin 8) (h : j ≠ j') : Disjoint (r8 j).set (r8 j').set := by
  rw [Finset.disjoint_left]
  intro i h1 h2
  have a1 := (Rect.mem_set_unit.mp h1) 0
  have a2 := (Rect.mem_set_unit.mp h2) 0
  have b1 : j.val ≤ (i 0).val ∧ (i 0).val < j.val + 1 := a1
  have b2 : j'.val ≤ (i 0).val ∧ (i 0).val < j'.val + 1 := a2
  exact h (Fin.ext (by omega))
/-- Different chunks' places do not meet. -/
theorem r3_disj (j j' : Fin 3) (h : j ≠ j') : Disjoint (r3 j).set (r3 j').set := by
  rw [Finset.disjoint_left]
  intro i h1 h2
  have a1 := (Rect.mem_set_unit.mp h1) 0
  have a2 := (Rect.mem_set_unit.mp h2) 0
  have b1 : j.val ≤ (i 0).val ∧ (i 0).val < j.val + 1 := a1
  have b2 : j'.val ≤ (i 0).val ∧ (i 0).val < j'.val + 1 := a2
  exact h (Fin.ext (by omega))

/-- A weight's slot in the scratch is its place. -/
theorem w_set (j : Fin 8) : (slot8 wM j).view.set = (r8 j).set :=
  (Memref.set_view_squeeze _ _).trans (View.set_slice_whole cc0_scratch1 (r8 j))
/-- A weight's slot in the argument is its place. -/
theorem h_set (j : Fin 8) : (slot8 hM j).view.set = (r8 j).set :=
  (Memref.set_view_squeeze _ _).trans (View.set_slice_whole main_arg3 (r8 j))
/-- A send slot is its chunk's place. -/
theorem s_set (j : Fin 3) : (slot3 sM j).view.set = (r3 j).set :=
  (Memref.set_view_squeeze _ _).trans (View.set_slice_whole cc0_scratch3 (r3 j))
/-- A receive slot is its chunk's place. -/
theorem r_set (j : Fin 3) : (slot3 rM j).view.set = (r3 j).set :=
  (Memref.set_view_squeeze _ _).trans (View.set_slice_whole cc0_scratch4 (r3 j))

/-! ## The slots' points-to -/

variable (m : (ℓ : Loc nD τ sig) → Buf (Elt F) ℓ)

/-- Weight slot `j` of device `c` at contents `f`. -/
def wPts (c : Dev nD) (j : Fin 8) (f : Buf (Elt F) ((slot8 wM j).view.loc (c : Thread nD τ))) : sProp 𝕄 :=
  (slot8 wM j).view.loc (c : Thread nD τ) ↦[(slot8 wM j).view.set]{fullShare} f
/-- Weight `j` of device `c`'s argument, as launched. -/
def hPts (c : Dev nD) (j : Fin 8) : sProp 𝕄 :=
  (slot8 hM j).view.loc (c : Thread nD τ) ↦[(slot8 hM j).view.set]{fullShare} (m ((c : Thread nD τ).loc main_arg3))

/-- The elements of the weight scratch outside its slots. -/
def wRest (c : Dev nD) : sProp 𝕄 :=
  iprop(∃ f : Buf (Elt F) ((c : Thread nD τ).loc cc0_scratch1),
    ((c : Thread nD τ).loc cc0_scratch1) ↦[Ring.restOf fun j : Fin 8 => ((slot8 wM j).view.set : Finset (Idx ((c : Thread nD τ).loc cc0_scratch1)))]{fullShare} f)
/-- The elements of the weight argument outside its slots. -/
def hRest (c : Dev nD) : sProp 𝕄 :=
  ((c : Thread nD τ).loc main_arg3) ↦[Ring.restOf fun j : Fin 8 => ((slot8 hM j).view.set : Finset (Idx ((c : Thread nD τ).loc main_arg3)))]{fullShare}
    (m ((c : Thread nD τ).loc main_arg3))
/-- The elements of the send scratch outside its slots. -/
def sRest (c : Dev nD) : sProp 𝕄 :=
  iprop(∃ f : Buf (Elt F) ((c : Thread nD τ).loc cc0_scratch3),
    ((c : Thread nD τ).loc cc0_scratch3) ↦[Ring.restOf fun j : Fin 3 => ((slot3 sM j).view.set : Finset (Idx ((c : Thread nD τ).loc cc0_scratch3)))]{fullShare} f)
/-- The elements of the receive scratch outside its slots. -/
def rRest (c : Dev nD) : sProp 𝕄 :=
  iprop(∃ f : Buf (Elt F) ((c : Thread nD τ).loc cc0_scratch4),
    ((c : Thread nD τ).loc cc0_scratch4) ↦[Ring.restOf fun j : Fin 3 => ((slot3 rM j).view.set : Finset (Idx ((c : Thread nD τ).loc cc0_scratch4)))]{fullShare} f)

/-- Eight conjuncts, one by one. -/
theorem sep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
/-- Three conjuncts, one by one. -/
theorem sep3 (Φ : Fin 3 → sProp 𝕄) : bigSep Finset.univ Φ = iprop(Φ 0 ∗ Φ 1 ∗ Φ 2) :=
  bigSep_univ_eq_bigSepL [0, 1, 2] (by decide) (by decide) Φ

/-- The weight scratch is its eight slots and the rest. -/
theorem w_split (c : Dev nD) :
    (iprop(∃ f : Buf (Elt F) ((c : Thread nD τ).loc cc0_scratch1), ((c : Thread nD τ).loc cc0_scratch1) ↦{fullShare} f) : sProp 𝕄)
      ⊢ iprop((bigSep Finset.univ fun j : Fin 8 => iprop(∃ f, wPts c j f)) ∗ wRest c) :=
  Ring.fam_split_ex (ℓ := (c : Thread nD τ).loc cc0_scratch1) (fun j : Fin 8 => (slot8 wM j).view.set)
    (fun j j' h => by rw [w_set, w_set]; exact r8_disj j j' h)
include m in
/-- The eight slots and the rest make the weights' scratch again. -/
theorem w_join (c : Dev nD) :
    iprop((bigSep Finset.univ fun j : Fin 8 => iprop(∃ f, wPts c j f)) ∗ wRest c)
      ⊢ (iprop(∃ f : Buf (Elt F) ((c : Thread nD τ).loc cc0_scratch1), ((c : Thread nD τ).loc cc0_scratch1) ↦{fullShare} f) : sProp 𝕄) := by
  refine BI.Entails.trans ?_ (Ring.fam_join (ℓ := (c : Thread nD τ).loc cc0_scratch1) (fun j : Fin 8 => (slot8 wM j).view.set)
    (fun j j' h => by rw [w_set, w_set]; exact r8_disj j j' h) (m ((c : Thread nD τ).loc cc0_scratch1)))
  exact BI.Entails.refl _

/-- The send scratch is its three slots and the rest. -/
theorem s_split (c : Dev nD) :
    (iprop(∃ f : Buf (Elt F) ((c : Thread nD τ).loc cc0_scratch3), ((c : Thread nD τ).loc cc0_scratch3) ↦{fullShare} f) : sProp 𝕄)
      ⊢ iprop((bigSep Finset.univ fun j : Fin 3 => iprop(∃ f, sPts c j f)) ∗ sRest c) :=
  Ring.fam_split_ex (ℓ := (c : Thread nD τ).loc cc0_scratch3) (fun j : Fin 3 => (slot3 sM j).view.set)
    (fun j j' h => by rw [s_set, s_set]; exact r3_disj j j' h)
include m in
/-- The three send slots and the rest make their scratch again. -/
theorem s_join (c : Dev nD) :
    iprop((bigSep Finset.univ fun j : Fin 3 => iprop(∃ f, sPts c j f)) ∗ sRest c)
      ⊢ (iprop(∃ f : Buf (Elt F) ((c : Thread nD τ).loc cc0_scratch3), ((c : Thread nD τ).loc cc0_scratch3) ↦{fullShare} f) : sProp 𝕄) :=
  BI.Entails.trans (BI.Entails.refl _) (Ring.fam_join (ℓ := (c : Thread nD τ).loc cc0_scratch3) (fun j : Fin 3 => (slot3 sM j).view.set)
    (fun j j' h => by rw [s_set, s_set]; exact r3_disj j j' h) (m ((c : Thread nD τ).loc cc0_scratch3)))

/-- The receive scratch is its three slots and the rest. -/
theorem r_split (c : Dev nD) :
    (iprop(∃ f : Buf (Elt F) ((c : Thread nD τ).loc cc0_scratch4), ((c : Thread nD τ).loc cc0_scratch4) ↦{fullShare} f) : sProp 𝕄)
      ⊢ iprop((bigSep Finset.univ fun j : Fin 3 => iprop(∃ f, rPts c j f)) ∗ rRest c) :=
  Ring.fam_split_ex (ℓ := (c : Thread nD τ).loc cc0_scratch4) (fun j : Fin 3 => (slot3 rM j).view.set)
    (fun j j' h => by rw [r_set, r_set]; exact r3_disj j j' h)
include m in
/-- The three receive slots and the rest make their scratch again. -/
theorem r_join (c : Dev nD) :
    iprop((bigSep Finset.univ fun j : Fin 3 => iprop(∃ f, rPts c j f)) ∗ rRest c)
      ⊢ (iprop(∃ f : Buf (Elt F) ((c : Thread nD τ).loc cc0_scratch4), ((c : Thread nD τ).loc cc0_scratch4) ↦{fullShare} f) : sProp 𝕄) :=
  BI.Entails.trans (BI.Entails.refl _) (Ring.fam_join (ℓ := (c : Thread nD τ).loc cc0_scratch4) (fun j : Fin 3 => (slot3 rM j).view.set)
    (fun j j' h => by rw [r_set, r_set]; exact r3_disj j j' h) (m ((c : Thread nD τ).loc cc0_scratch4)))

/-- The weight argument, as launched, is its eight slots and the rest; and back. -/
theorem h_split (c : Dev nD) :
    (((c : Thread nD τ).loc main_arg3) ↦{fullShare} (m ((c : Thread nD τ).loc main_arg3)) : sProp 𝕄)
      ⊢ iprop((bigSep Finset.univ fun j : Fin 8 => hPts m c j) ∗ hRest m c) :=
  Ring.fam_split (ℓ := (c : Thread nD τ).loc main_arg3) (fun j : Fin 8 => (slot8 hM j).view.set)
    (fun j j' h => by rw [h_set, h_set]; exact r8_disj j j' h) _
/-- The eight weights and the rest make the argument again. -/
theorem h_join (c : Dev nD) :
    iprop((bigSep Finset.univ fun j : Fin 8 => hPts m c j) ∗ hRest m c)
      ⊢ (((c : Thread nD τ).loc main_arg3) ↦{fullShare} (m ((c : Thread nD τ).loc main_arg3)) : sProp 𝕄) := by
  have e := pointsTo_biUnion (Ix := Unit) (Name := ℕ) (U := UU) (Lvl := ℕ) (ℓ := (c : Thread nD τ).loc main_arg3) (q := fullShare)
    (f := m ((c : Thread nD τ).loc main_arg3)) Finset.univ (fun j : Fin 8 => (slot8 hM j).view.set)
    (fun j _ j' _ h => by rw [h_set, h_set]; exact r8_disj j j' h)
  have e' : (bigSep Finset.univ fun j : Fin 8 => hPts m c j)
      = (((c : Thread nD τ).loc main_arg3) ↦[Finset.univ.biUnion fun j : Fin 8 => (slot8 hM j).view.set]{fullShare}
          (m ((c : Thread nD τ).loc main_arg3)) : sProp 𝕄) := e.symm
  rw [e']
  exact (pointsTo_split_subset (Finset.subset_univ _)).2

/-! ## Contents -/

/-- A slot of one block has the block's elements. -/
theorem cast_slot : (⟨3, ![1, 512, 1024]⟩ : Shape).ShapeCasts (⟨2, ![512, 1024]⟩ : Shape) := by decide

/-- Two slots' values with the same squeezed form are the same. -/
theorem shapeCast_inj {α : Type} {s t : Shape} {h h' : s.ShapeCasts t} (hr : t.ShapeCasts s) {v v' : s.Idx → α}
    (e : shapeCast t v h = shapeCast t v' h') : v = v' := by
  rw [← shapeCast_shapeCast v h hr, ← shapeCast_shapeCast v' h' hr, e]

/-- A block reshapes to a slot of one block. -/
theorem casts_back : S512x1024.ShapeCasts S1x512x1024 := by decide
/-- A slot of one block reshapes to the block. -/
theorem casts_fwd : S1x512x1024.ShapeCasts S512x1024 := by decide

omit [FloatOps F] in
/-- A weight slot after a copy out of the argument's slot reads the argument's slot. -/
theorem w_copied (j : Fin 8) (fd : (slot8 wM j).view.ty.Contents (Elt F)) (fs : (slot8 hM j).view.ty.Contents (Elt F)) :
    (wM).view.readAt (Elt F) (r8 j).toLoadRect ((slot8 wM j).view.write (Elt F) fd ((slot8 hM j).view.read (Elt F) fs) Finset.univ)
      = (hM).view.readAt (Elt F) (r8 j).toLoadRect fs := by
  have e : (slot8 wM j).view.read (Elt F) ((slot8 wM j).view.write (Elt F) fd ((slot8 hM j).view.read (Elt F) fs) Finset.univ)
      = (slot8 hM j).view.read (Elt F) fs := View.read_write_univ _ _
  rw [Memref.read_squeeze_slice wM (r8 j) _ _ casts_fwd, Memref.read_squeeze_slice hM (r8 j) _ _ casts_fwd] at e
  exact shapeCast_inj casts_back e

omit [FloatOps F] in
/-- A receive slot after a transfer out of a send slot reads what was stored in the send slot. -/
theorem r_landed (i j : Fin 3) (fd : (slot3 rM j).view.ty.Contents (Elt F)) (fs : (slot3 sM i).view.ty.Contents (Elt F))
    (v : Vec F S1x512x1024 .bf16) (hv : (sM).view.readAt (Elt F) (r3 i).toLoadRect fs = v) :
    (rM).view.readAt (Elt F) (r3 j).toLoadRect ((slot3 rM j).view.write (Elt F) fd ((slot3 sM i).view.read (Elt F) fs) Finset.univ) = v := by
  have e : (slot3 rM j).view.read (Elt F) ((slot3 rM j).view.write (Elt F) fd ((slot3 sM i).view.read (Elt F) fs) Finset.univ)
      = (slot3 sM i).view.read (Elt F) fs := View.read_write_univ _ _
  have e2 : (slot3 sM i).view.read (Elt F) fs = shapeCast S512x1024 v casts_fwd := by
    rw [Memref.read_squeeze_slice sM (r3 i) _ _ casts_fwd, hv]
  have e := e.trans e2
  rw [Memref.read_squeeze_slice rM (r3 j) _ _ casts_fwd] at e
  exact shapeCast_inj casts_back e

omit [FloatOps F] in
/-- A send slot after a store reads what was stored. -/
theorem s_stored (i : Fin 3) (f : (sM.access (r3 i)).ty.Contents (Elt F)) (v : Vec F S1x512x1024 .bf16) :
    (sM).view.readAt (Elt F) (r3 i).toLoadRect ((sM.access (r3 i)).write (Elt F) f v Finset.univ) = v :=
  View.read_write_univ (v := sM.access (r3 i)) f v

/-- The rows below `64 n` hold the slots' rows. -/
def YUpTo (c : Dev nD) (n : ℕ) (f : (cc0_scratch2 : Ref sig .tc).ty.Contents (Elt F)) : Prop :=
  ∀ i : S512x1024.Idx, (i 0).val < 64 * n → f i = yAt m c i

/-- Rows right up to expert `j` are right up to the next once expert `j`'s are stored. -/
theorem yUpTo_store (c : Dev nD) (j : Fin 8) (f : (cc0_scratch2 : Ref sig .tc).ty.Contents (Elt F)) (hf : YUpTo m c j.val f) :
    YUpTo m c (j.val + 1) ((yM.access (ry j)).write (Elt F) f (yPay m c j) Finset.univ) := by
  intro i hi
  have hi0 : (i 0).val < 512 := (i 0).isLt
  by_cases h : (i 0).val < 64 * j.val
  · have hn : i ∉ (yM.access (ry j)).setOn Finset.univ := by
      rw [View.setOn_univ]
      intro hm
      have hm' : i ∈ (ry j).set := by rw [← View.set_slice_whole cc0_scratch2 (ry j)]; exact hm
      have := (Rect.mem_set_unit.mp hm') 0
      have b : 64 * j.val ≤ (i 0).val ∧ (i 0).val < 64 * j.val + 64 := this
      omega
    rw [← hf i h]
    exact View.write_of_not_mem _ _ _ hn
  · have hi1 : (i 1).val < 1024 := (i 1).isLt
    let x : S64x1024.Idx := ix2 ⟨(i 0).val % 64, Nat.mod_lt _ (by decide)⟩ ⟨(i 1).val, hi1⟩
    have hd : (i 0).val / 64 = j.val := by omega
    have hx : (yM.access (ry j)).emb x = i := by
      funext a
      refine Fin.ext ?_
      show ((ry j).emb x a).val = (i a).val
      rw [Rect.emb_apply]
      match a with
      | ⟨0, _⟩ => show 64 * j.val + 1 * ((i 0).val % 64) = (i 0).val; omega
      | ⟨1, _⟩ => show 0 + 1 * (i 1).val = (i 1).val; omega
    have h1 : ((yM.access (ry j)).write (Elt F) f (yPay m c j) Finset.univ) ((yM.access (ry j)).emb x) = yPay m c j x :=
      View.write_emb_of_mem (v := yM.access (ry j)) f (yPay m c j) (Finset.mem_univ x)
    rw [hx] at h1
    refine h1.trans ?_
    have hj : (⟨(i 0).val / 64, by omega⟩ : Fin 8) = j := Fin.ext hd
    unfold yAt
    rw [hj]

/-- There are 64 rows for each of eight experts. -/
theorem lt_rows (i : S512x1024.Idx) : (i 0).val < 64 * 8 := (i 0).isLt

/-- Rows right up to the eighth expert are all right. -/
theorem yUpTo_all (c : Dev nD) (f : (cc0_scratch2 : Ref sig .tc).ty.Contents (Elt F)) (n : ℕ) (hn : n = 8) (hf : YUpTo m c n f) :
    f = yAt m c := by
  subst hn
  exact @funext S512x1024.Idx _ _ _ fun i => hf i (lt_rows i)

end Cert.KernelIdealRun

end
-- ==== Proof.RunKernelIdeal.Steps.lean ====
/-
One rule per kind of effect of the kernel, at a symbolic device and slot.
-/
module

public import proofs.«01_k».proof.Proof.RunKernelIdeal.Slots

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop has a variant. -/
abbrev 𝒱₀ : Variants := Variants.none

/-- The weakest precondition of a program of device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ) (c : Dev nD)

/-- What the device still owes, whatever it has waited for. -/
def owing (c : Dev nD) (O : CellTallies nD τ sig Unit) : sProp 𝕄 := iprop(∃ W, owes (c : Thread nD τ) O W)

/-- A load of a weight stays in its slot. -/
theorem w_within (j : Fin 8) : (wM).view.setOn (r8 j).toLoadRect.set ⊆ (slot8 wM j).view.set := by
  rw [Memref.set_view_squeeze]
  exact Memref.setOn_subset_slice_of_within wM (r8 j) (fun _ => rfl) (r8 j).toLoadRect (by revert j; decide)
/-- A load of a received chunk stays in its slot. -/
theorem r_within (j : Fin 3) : (rM).view.setOn (r3 j).toLoadRect.set ⊆ (slot3 rM j).view.set := by
  rw [Memref.set_view_squeeze]
  exact Memref.setOn_subset_slice_of_within rM (r3 j) (fun _ => rfl) (r3 j).toLoadRect (by revert j; decide)
/-- A load of a chunk to send stays in its slot. -/
theorem s_within (j : Fin 3) : (sM).view.setOn (r3 j).toLoadRect.set ⊆ (slot3 sM j).view.set := by
  rw [Memref.set_view_squeeze]
  exact Memref.setOn_subset_slice_of_within sM (r3 j) (fun _ => rfl) (r3 j).toLoadRect (by revert j; decide)
/-- A store of a chunk to send stays in its slot. -/
theorem s_access (j : Fin 3) : (sM.access (r3 j)).setOn Finset.univ ⊆ (slot3 sM j).view.set := by
  rw [Memref.set_view_squeeze, View.setOn_univ]

/-! ## The weights -/

/-- A weight slot holding its weight. -/
def wHas (c : Dev nD) (j : Fin 8) : sProp 𝕄 :=
  iprop(∃ f, ⌜(wM).view.readAt (Elt F) (r8 j).toLoadRect f = wAt m c j⌝ ∗ wPts c j f)

/-- The credit of one weight's copy. -/
abbrev NW : ℕ := (slot8 wM 0).view.dmaCredit
/-- A weight's copy has a credit that is not zero. -/
theorem NW_pos : 0 < NW := View.dmaCredit_pos _ (by decide)

/-- Copy `j` under way: it returns the slot with the weight, and the weight's place in the argument. -/
def copying (c : Dev nD) (j : Fin 8) : sProp 𝕄 :=
  iprop(∃ fd, Transfers.Flight EC (c : Thread nD τ) (.dma (wsem j)) () NW
    iprop((wPts c j ((slot8 wM j).view.write (Elt F) fd ((slot8 hM j).view.read (Elt F) (m ((c : Thread nD τ).loc main_arg3))) Finset.univ))
      ∗ hPts m c j))

/-- Start the copy of weight `j`. -/
theorem copy_start {α : Type} {Q : α → sProp 𝕄} (j : Fin 8) {hsrc : (slot8 hM j).view.WordExact} {hdst : (slot8 wM j).view.WordExact}
    {hsem : DmaTarget.Typed (nD := nD) (τ := τ) (p := Proc.tc) .hbm (.dma (wsem j)) (.here (slot8 wM j))}
    {k : PUnit → Prog (TpuEff nD τ sig (Elt F) Λ₀ .tc) α} :
    iprop(hPts m c j ∗ (∃ f, wPts c j f) ∗ semVal ((c : Thread nD τ), .dma (wsem j)) 0)
      ⊢ iprop((copying m c j -∗ WP c (k ⟨⟩) Q)
        -∗ WP c (.op (.enqueueDma (slot8 hM j) (.here (slot8 wM j)) (.dma (wsem j)) hsrc hdst hsem) k) Q) := by
  iintro ⟨Hh, ⟨%fd, Hw⟩, Hz⟩ Hk
  unfold hPts wPts
  iapply (Transfers.wp_dmaLocal EC 𝒱₀ (c : Thread nD τ) none (via := .same) (hsrc := hsrc) (hdst := hdst) (hsem := hsem) () NW rfl NW_pos (Finset.Subset.refl _)) $$ [Hh Hw Hz]
  · isplitl [Hh]; · iexact Hh
    isplitl [Hw]; · iexact Hw
    iexact Hz
  iintro Hf
  iapply Hk
  unfold copying wPts hPts
  iexists fd
  iexact Hf

/-- Wait for the copy of weight `j`: its slot holds the weight. -/
theorem copy_wait {α : Type} {Q : α → sProp 𝕄} (j : Fin 8) {hsrc : (slot8 hM j).view.WordExact} {hdst : (slot8 wM j).view.WordExact}
    {k : PUnit → Prog (TpuEff nD τ sig (Elt F) Λ₀ .tc) α} :
    iprop(copying m c j ∗ owing c (OR0 c) ∗ levAts L lv)
      ⊢ iprop((iprop(wHas m c j ∗ hPts m c j ∗ semVal ((c : Thread nD τ), .dma (wsem j)) 0 ∗ owing c (OR0 c)) -∗ WP c (k ⟨⟩) Q)
        -∗ WP c (.op (.waitDma2 (wsem j) (slot8 hM j) (slot8 wM j) hsrc hdst) k) Q) := by
  unfold copying owing
  iintro ⟨⟨%fd, Hf⟩, ⟨%W, HO⟩, #Hlev⟩ Hk
  iapply (Transfers.wp_waitLocalO EC 𝒱₀ (c : Thread nD τ) none (hsrc := hsrc) (hdst := hdst) () (N := NW) rfl (O := OR0 c) (W := W)) $$ [Hf HO]
  · isplitl [Hf]; · iexact Hf
    isplitl [HO]; · iexact HO
    iapply (mayWait_copy c j); iexact Hlev
  iintro ⟨⟨Hw, Hh⟩, Hz, HO⟩
  iapply Hk
  isplitl [Hw]
  · unfold wHas
    iexists _
    isplitr
    · ipureintro; exact w_copied j fd _
    iexact Hw
  isplitl [Hh]; · iexact Hh
  isplitl [Hz]; · iexact Hz
  iexists _; iexact HO

/-- Load weight `j`. -/
theorem load_w {α : Type} {Q : α → sProp 𝕄} (j : Fin 8) {hl : (wM).view.LoadsAt (r8 j).toLoadRect}
    {k : (Vec F S1x512x1024 .f32) → Prog (TpuEff nD τ sig (Elt F) Λ₀ .tc) α} :
    wHas m c j ⊢ iprop((wHas m c j -∗ WP c (k (wAt m c j)) Q) -∗ WP c (.op (.load wM (r8 j).toLoadRect hl) k) Q) := by
  unfold wHas wPts
  iintro ⟨%f, %hf, Hw⟩ Hk
  iapply (wp_load 𝒱₀ (c : Thread nD τ) none Set.univ (m := wM) (hl := hl) (q := fullShare) (f := f)
    (w_within j)) $$ [Hw]
  · iexact Hw
  iintro Hw
  rw [hf]
  iapply Hk
  iexists f
  isplitr; · ipureintro; exact hf
  iexact Hw

/-! ## The barrier -/

/-- Every cell's invariant, and that each is at its round. -/
def records (K : Dev nD × CK → ℕ) : sProp 𝕄 :=
  bigSep Finset.univ fun ck : Dev nD × CK => iprop(cellInv ER (xRd m) (K ck) (kcell ck) ∗ reached ER (kcell ck) 0)
/-- The records may be used again and again. -/
instance records_persistent (K : Dev nD × CK → ℕ) : BI.Persistent (records m K) := by unfold records; infer_instance
/-- The record of one cell. -/
theorem records_get (K : Dev nD × CK → ℕ) (ck : Dev nD × CK) :
    records m K ⊢ iprop(cellInv ER (xRd m) (K ck) (kcell ck) ∗ reached ER (kcell ck) 0) :=
  bigSep_elim (Finset.mem_univ ck)

variable (K : Dev nD × CK → ℕ)

/-- A receive slot at any contents is what a signal hands over. -/
theorem sig_pay (j : Fin 3) : iprop(∃ f, rPts (F := F) c j f) = (xRd m).payload (barCell (fwd c j)) 0 j := by
  rw [payload_kcell]
  unfold payOf barPay
  dsimp only
  rw [fwd_rev' c j]

/-- Signal a peer's barrier, handing over the receive slot that the peer fills. -/
theorem signal_step {α : Type} {Q : α → sProp 𝕄} (j : Fin 3) (n : Dev nD) (hn : n = fwd c j) (O' : CellTallies nD τ sig Unit)
    {k : PUnit → Prog (TpuEff nD τ sig (Elt F) Λ₀ .tc) α} :
    iprop(records m K ∗ owing c (O' + owB c j) ∗ dutyTok ER (barCell (fwd c j)) 0 j ∗ (∃ f, rPts c j f))
      ⊢ iprop((owing c O' -∗ WP c (k ⟨⟩) Q) -∗ WP c (.op (.semSignal (n, Proc.tc) barS (1#32).toInt) k) Q) := by
  subst hn
  unfold owing
  iintro ⟨#HR, ⟨%W, HO⟩, Ht, Hp⟩ Hk
  ihave ⟨#HI, #Hr⟩ := (records_get m K (fwd c j, none)) $$ HR
  iapply (Rounds.wp_signal 𝒱₀ ER (xRd m) (c : Thread nD τ) none (dst := (fwd c j : Thread nD τ)) (κ := K (fwd c j, none))
      (d := j) (by
        show j ∈ (xRd m).duties (kcell (fwd c j, none)) 0
        rw [duties_kcell]; exact Finset.mem_univ _) ((amount_kcell m (fwd c j) none j).trans (by decide)) () O' rfl) $$ [HO Ht Hp]
  · isplitr; · iexact HI
    isplitl [HO]; · iexact HO
    isplitl [Ht]; · iexact Ht
    isplitl [Hp]
    · iapply (show iprop(∃ f, rPts (F := F) c j f) ⊢ (xRd m).payload ((fwd c j : Thread nD τ), SemLoc.reg barS) 0 j from Entails.of_eq (sig_pay m c j)) $$ Hp
    iexact Hr
  iintro HO
  iapply Hk
  iexists W
  iexact HO

/-- Wait at the barrier: the three peers' receive slots arrive. -/
theorem bar_wait {α : Type} {Q : α → sProp 𝕄} {k : PUnit → Prog (TpuEff nD τ sig (Elt F) Λ₀ .tc) α} :
    iprop(records m K ∗ cred (tallyAt (barCell c) () 3) ∗ owing c (OR0 c) ∗ levAts L lv ∗ atPos ER (barCell c) 0 ∅ 0)
      ⊢ iprop((iprop(owing c (OR0 c) ∗ semVal (barCell c) 0 ∗ barPay c 0 ∗ barPay c 1 ∗ barPay c 2) -∗ WP c (k ⟨⟩) Q)
        -∗ WP c (.op (.semWait barS (3#32).toInt) k) Q) := by
  unfold owing
  iintro ⟨#HR, Hc, ⟨%W, HO⟩, #Hlev, Hat⟩ Hk
  ihave ⟨#HI, #Hr⟩ := (records_get m K (c, none)) $$ HR
  iapply (Rounds.wp_wait_rest_token 𝒱₀ ER (xRd m) (c : Thread nD τ) none (κ := K (c, none))
      (wpE_semWait_eq 𝒱₀ (c : Thread nD τ) none Set.univ) (Set.mem_univ _) () (O := OR0 c) (W := W) (R := 0) (m := 0) (T := ∅)
      (by
        show 0 + (3#32).toNat = (xRd m).expect (barCell c) 0
        rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (show bigSep ((xRd m).duties ((c : Thread nD τ), SemLoc.reg barS) 0 \ ∅) (fun d => (xRd m).payload ((c : Thread nD τ), SemLoc.reg barS) 0 d)
      ⊢ iprop(barPay c 0 ∗ barPay c 1 ∗ barPay (F := F) c 2) from Entails.of_eq (rest_bar m c)) $$ Hpay
  imod (Rounds.cell_close ER (xRd m) (Set.mem_univ (K (c, none))) (fun h => h) (R := 0 + 1) (duties_later m (barCell c))) $$ [Hat] with Hz
  · isplitr; · iexact HI
    iexact Hat
  iapply Hk
  isplitl [HO]; · iexists _; iexact HO
  isplitl [Hz]; · iexact Hz
  iexact Hp

/-! ## The sends -/

/-- A send slot holding the values `v`. -/
def sHas (c : Dev nD) (i : Fin 3) (v : Vec F S1x512x1024 .bf16) : sProp 𝕄 :=
  iprop(∃ f, ⌜(sM).view.readAt (Elt F) (r3 i).toLoadRect f = v⌝ ∗ sPts c i f)

/-- What a device sends is what its peer is to receive. -/
theorem recvVal_fwd (i : Fin 3) : recvVal m (fwd c i) (Fin.rev i) = sendVal m c i := by
  unfold recvVal; rw [fwd_rev', Fin.rev_rev]

/-- The receive slot that duty `rev i` hands over is the one send `i` fills. -/
theorem barPay_fwd (i : Fin 3) : barPay (F := F) c (Fin.rev i) = iprop(∃ f, rPts (F := F) (fwd c i) (Fin.rev i) f) := by
  unfold barPay; rw [Fin.rev_rev]

/-- Send chunk `i`: the peer's receive slot gets it. -/
theorem send_step {α : Type} {Q : α → sProp 𝕄} (i j : Fin 3) (hj : j = Fin.rev i) (n : Dev nD) (hn : n = fwd c i) (O' : CellTallies nD τ sig Unit)
    {hsc : (slot3 rM j : Memref sig (Dev.tc n : Thread nD τ).2.kind .vmem S512x1024 .bf16).view.ref.isScScratch = false}
    {hsrc : (slot3 sM i).view.WordExact} {hdst : (slot3 rM j).view.WordExact}
    {hsem : DmaTarget.Typed .vmem (.dma (rsem j)) (.remote (Dev.tc n : Thread nD τ) (slot3 rM j) (.dma (ssem i)) hsc)}
    {k : PUnit → Prog (TpuEff nD τ sig (Elt F) Λ₀ .tc) α} :
    iprop(records m K ∗ sHas c i (sendVal m c i) ∗ barPay c j ∗ owing c (O' + owR c i)
        ∗ dutyTok ER (sendCell c i) 0 0 ∗ dutyTok ER (recvCell (fwd c i) (Fin.rev i)) 0 0)
      ⊢ iprop((iprop(cred (tallyAt (sendCell c i) () N) ∗ owing c O') -∗ WP c (k ⟨⟩) Q)
        -∗ WP c (.op (.enqueueDma (slot3 sM i) (.remote (Dev.tc n : Thread nD τ) (slot3 rM j) (.dma (ssem i)) hsc) (.dma (rsem j)) hsrc hdst hsem) k) Q) := by
  subst hn hj
  rw [barPay_fwd]
  unfold owing sHas sPts rPts
  iintro ⟨#HR, ⟨%fs, %hfs, Hs⟩, ⟨%fd, Hd⟩, ⟨%W, HO⟩, Ht, Ht'⟩ Hk
  ihave ⟨#HI, #Hr⟩ := (records_get m K (c, some (false, i))) $$ HR
  ihave ⟨#HI', #Hr'⟩ := (records_get m K (fwd c i, some (true, Fin.rev i))) $$ HR
  iapply (Rounds.wp_send_pointsTo 𝒱₀ ER (xRd m) (c : Thread nD τ) none (κ₁ := K (c, some (false, i)))
    (κ₂ := K (fwd c i, some (true, Fin.rev i)))
    (r₁ := 0) (r₂ := 0) (d₁ := 0) (d₂ := 0) (fd := fd)
    (by rw [duties_kcell]; exact Finset.mem_singleton_self _) (by rw [duties_kcell]; exact Finset.mem_singleton_self _)
    () () N rfl (amount_kcell m c (some (false, i)) 0) (amount_kcell m (fwd c i) (some (true, Fin.rev i)) 0) O' rfl (W := W)
    (by
      rw [payload_kcell]; unfold payOf sPts; dsimp only
      iintro H; iexists fs; iexact H)
    (by
      rw [payload_kcell]; unfold payOf rHas rPts; dsimp only
      iintro H; iexists _
      isplitr
      · ipureintro; exact (r_landed i (Fin.rev i) fd fs _ hfs).trans (recvVal_fwd m c i).symm
      iexact H)) $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

/-- A wait on a send or receive cell, with nothing owed: the cell's payload, and the cell closed. -/
theorem xfer_wait {α : Type} {Q : α → sProp 𝕄} (bj : Bool × Fin 3) {sem : DmaSem sig} (hs : SemLoc.dma sem = csem (some bj))
    {a b : Memref sig .tc .vmem S512x1024 .bf16} (hb : b.view.dmaCredit = N) {hsrc : a.view.WordExact} {hdst : b.view.WordExact}
    {k : PUnit → Prog (TpuEff nD τ sig (Elt F) Λ₀ .tc) α} :
    iprop(records m K ∗ cred (tallyAt (kcell (c, some bj)) () N) ∗ owing c 0 ∗ atPos ER (kcell (c, some bj)) 0 ∅ 0)
      ⊢ iprop((iprop(owing c 0 ∗ semVal (kcell (c, some bj)) 0 ∗ payOf m c 0 (some (some bj))) -∗ WP c (k ⟨⟩) Q)
        -∗ WP c (.op (.waitDma2 sem a b hsrc hdst) k) Q) := by
  unfold owing
  iintro ⟨#HR, Hc, ⟨%W, HO⟩, Hat⟩ Hk
  ihave ⟨#HI, #Hr⟩ := (records_get m K (c, some bj)) $$ HR
  unfold kcell
  dsimp only
  rw [← hs]
  iapply (Rounds.wp_wait_rest_token 𝒱₀ ER (xRd m) (c : Thread nD τ) none (κ := K (c, some bj))
      (wpE_waitDma2_eq 𝒱₀ (c : Thread nD τ) none Set.univ) (Set.mem_univ _) () (O := 0) (W := W) (R := 0) (m := 0) (T := ∅)
      (by rw [Nat.zero_add, hb, hs]; exact (expect_xfer m c bj).symm)) $$ [Hc HO Hat]
  · isplitr; · iexact HI
    isplitl [Hc]; · rw [hb]; iexact Hc
    isplitl [HO]; · iexact HO
    isplitr; · rw [MayWait_zero]; iempintro
    iexact Hat
  iintro ⟨HO, Hat, -, Hpay⟩
  imod (Rounds.cell_close ER (xRd m) (Set.mem_univ (K (c, some bj))) (fun h => h) (R := 0 + 1) (duties_later m ((c : Thread nD τ), SemLoc.dma sem))) $$ [Hat] with Hz
  · isplitr; · iexact HI
    iexact Hat
  iapply Hk
  isplitl [HO]; · iexists _; iexact HO
  isplitl [Hz]; · iexact Hz
  rw [hs]
  iapply (Entails.of_eq (rest_xfer m c bj)) $$ Hpay

/-- Load received chunk `j`. -/
theorem load_r {α : Type} {Q : α → sProp 𝕄} (j : Fin 3) (v : Vec F S1x512x1024 .bf16) {hl : (rM).view.LoadsAt (r3 j).toLoadRect}
    {k : (Vec F S1x512x1024 .bf16) → Prog (TpuEff nD τ sig (Elt F) Λ₀ .tc) α} :
    rHas c j v ⊢ iprop((rHas c j v -∗ WP c (k v) Q) -∗ WP c (.op (.load rM (r3 j).toLoadRect hl) k) Q) := by
  unfold rHas rPts
  iintro ⟨%f, %hf, Hw⟩ Hk
  iapply (wp_load 𝒱₀ (c : Thread nD τ) none Set.univ (m := rM) (hl := hl) (q := fullShare) (f := f)
    (r_within j)) $$ [Hw]
  · iexact Hw
  iintro Hw
  rw [hf]
  iapply Hk
  iexists f
  isplitr; · ipureintro; exact hf
  iexact Hw

/-- A send slot loaded for nothing. -/
theorem load_s {α : Type} {Q : α → sProp 𝕄} (i : Fin 3) {hl : (sM).view.LoadsAt (r3 i).toLoadRect}
    {k : (Vec F S1x512x1024 .bf16) → Prog (TpuEff nD τ sig (Elt F) Λ₀ .tc) α} :
    iprop(∃ f, sPts c i f) ⊢ iprop((∀ v, iprop(∃ f, sPts c i f) -∗ WP c (k v) Q) -∗ WP c (.op (.load sM (r3 i).toLoadRect hl) k) Q) := by
  unfold sPts
  iintro ⟨%f, Hw⟩ Hk
  iapply (wp_load 𝒱₀ (c : Thread nD τ) none Set.univ (m := sM) (hl := hl) (q := fullShare) (f := f)
    (s_within i)) $$ [Hw]
  · iexact Hw
  iintro Hw
  iapply Hk
  iexists f
  iexact Hw

/-- Store a chunk to send in slot `i`. -/
theorem store_s {α : Type} {Q : α → sProp 𝕄} (i : Fin 3) (v : Vec F S1x512x1024 .bf16) {hx : (sM.access (r3 i)).Stores Finset.univ}
    {hm : (Finset.univ : Finset (r3 i).shape.Idx) = Finset.univ ∨ ∀ a, (r3 i).stride a = 1}
    {k : PUnit → Prog (TpuEff nD τ sig (Elt F) Λ₀ .tc) α} :
    iprop(∃ f, sPts c i f) ⊢ iprop((sHas c i v -∗ WP c (k ⟨⟩) Q) -∗ WP c (.op (.store sM (r3 i) v Finset.univ hx hm) k) Q) := by
  unfold sHas sPts
  iintro ⟨%f, Hw⟩ Hk
  iapply (wp_store 𝒱₀ (c : Thread nD τ) none Set.univ (m := sM) (r := r3 i) (Mk := Finset.univ) (hx := hx) (hm := hm) (f := f)
    (s_access i)) $$ [Hw]
  · iexact Hw
  iintro Hw
  iapply Hk
  iexists _
  isplitr; · ipureintro; exact s_stored i f v
  iexact Hw

/-! ## The slots' rows -/

/-- The rows of the first `n` experts computed. -/
def yHas (c : Dev nD) (n : ℕ) : sProp 𝕄 :=
  iprop(∃ f, ⌜YUpTo m c n f⌝ ∗ (((c : Thread nD τ).loc cc0_scratch2) ↦{fullShare} f))

/-- Load some rows of the slots' results before they are written. -/
theorem load_y_any {α : Type} {Q : α → sProp 𝕄} (n : ℕ) {r : LoadRect S512x1024} {hl : (yM).view.LoadsAt r}
    {k : (Vec F r.shape .bf16) → Prog (TpuEff nD τ sig (Elt F) Λ₀ .tc) α} :
    yHas m c n ⊢ iprop((∀ v, yHas m c n -∗ WP c (k v) Q) -∗ WP c (.op (.load yM r hl) k) Q) := by
  unfold yHas
  iintro ⟨%f, %hf, Hy⟩ Hk
  iapply (wp_load 𝒱₀ (c : Thread nD τ) none Set.univ (m := yM) (Finset.subset_univ _)) $$ Hy
  iintro Hy
  iapply Hk
  iexists f
  isplitr; · ipureintro; exact hf
  iexact Hy

/-- Store the rows of expert `j`. -/
theorem store_y {α : Type} {Q : α → sProp 𝕄} (j : Fin 8) {hx : (yM.access (ry j)).Stores Finset.univ}
    {hm : (Finset.univ : Finset (ry j).shape.Idx) = Finset.univ ∨ ∀ a, (ry j).stride a = 1}
    {k : PUnit → Prog (TpuEff nD τ sig (Elt F) Λ₀ .tc) α} :
    yHas m c j.val ⊢ iprop((yHas m c (j.val + 1) -∗ WP c (k ⟨⟩) Q) -∗ WP c (.op (.store yM (ry j) (yPay m c j) Finset.univ hx hm) k) Q) := by
  unfold yHas
  iintro ⟨%f, %hf, Hy⟩ Hk
  iapply (wp_store 𝒱₀ (c : Thread nD τ) none Set.univ (m := yM) (r := ry j) (Mk := Finset.univ) (Finset.subset_univ _)) $$ Hy
  iintro Hy
  iapply Hk
  iexists _
  isplitr; · ipureintro; exact yUpTo_store m c j f hf
  iexact Hy

/-- The offset of a whole array is zero on both axes. -/
theorem hz : (![0, 0] : Fin 2 → Nat) = fun _ => 0 := funext fun a => by fin_cases a <;> rfl

/-- All rows, read. -/
theorem load_y {α : Type} {Q : α → sProp 𝕄} {hl : (yM).view.LoadsAt (Rect.unit (s := S512x1024) ![0, 0] S512x1024.size inb_S512x1024_S512x1024_0_0).toLoadRect}
    {k : (Vec F S512x1024 .bf16) → Prog (TpuEff nD τ sig (Elt F) Λ₀ .tc) α} :
    yHas m c 8 ⊢ iprop((yHas m c 8 -∗ WP c (k (yAt m c)) Q)
      -∗ WP c (.op (.load yM (Rect.unit (s := S512x1024) ![0, 0] S512x1024.size inb_S512x1024_S512x1024_0_0).toLoadRect hl) k) Q) := by
  unfold yHas
  iintro ⟨%f, %hf, Hy⟩ Hk
  iapply (wp_load 𝒱₀ (c : Thread nD τ) none Set.univ (m := yM) (Finset.subset_univ _)) $$ Hy
  iintro Hy
  rw [show (yM).view.readAt (Elt F) (Rect.unit (s := S512x1024) ![0, 0] S512x1024.size inb_S512x1024_S512x1024_0_0).toLoadRect f = yAt m c from
    (Memref.readAt_unit_zero (Elt F) cc0_scratch2 hz _ f).trans (yUpTo_all m c f 8 rfl hf)]
  iapply Hk
  iexists f
  isplitr; · ipureintro; exact hf
  iexact Hy

end Cert.KernelIdealRun

end
-- ==== Proof.RunKernelIdeal.PartsA.lean ====
/-
The first five printed parts of the kernel: the weights' copies started, the barrier, the gather/scatter matrix.
-/
module

public import proofs.«01_k».proof.Proof.RunKernelIdeal.Steps

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A printed part at the kernel's buffers. -/
abbrev onBufs {β : Type 1}
    (p : (arg0 : Memref sig .tc .vmem S2048x512 .f32) → arg0.IsWhole → (arg1 : Memref sig .tc .vmem S2048x1 .i32) → arg1.IsWhole
      → (arg2 : Memref sig .tc .hbm S8x512x1024 .f32) → arg2.IsWhole → (arg3 : Memref sig .tc .vmem S512x1024 .f32) → arg3.IsWhole
      → (arg4 : Memref sig .tc .vmem S2048x512 .bf16) → arg4.IsWhole → (arg5 : Memref sig .tc .vmem S8x512x1024 .f32) → arg5.IsWhole
      → (arg6 : Memref sig .tc .vmem S512x1024 .bf16) → arg6.IsWhole → (arg7 : Memref sig .tc .vmem S3x512x1024 .bf16) → arg7.IsWhole
      → (arg8 : Memref sig .tc .vmem S3x512x1024 .bf16) → arg8.IsWhole → DmaSems sig S8 → DmaSems sig S3 → DmaSems sig S3 → β) : β :=
  p xM (Memref.isWhole_whole _) eM (Memref.isWhole_whole _) hM (Memref.isWhole_whole _) oM (Memref.isWhole_whole _)
    gM (Memref.isWhole_whole _) wM (Memref.isWhole_whole _) yM (Memref.isWhole_whole _) sM (Memref.isWhole_whole _)
    rM (Memref.isWhole_whole _) cc0_scratch5 cc0_scratch6 cc0_scratch7

variable (m : (ℓ : Loc nD τ sig) → Buf (Elt F) ℓ) (c : Dev nD)

/-- What copy `j` starts from: the weight's place in the argument, the slot, the semaphore at zero. -/
def idle (c : Dev nD) (j : Fin 8) : sProp 𝕄 :=
  iprop(hPts m c j ∗ (∃ f, wPts c j f) ∗ semVal ((c : Thread nD τ), .dma (wsem j)) 0)
/-- What its wait leaves: the slot with the weight. -/
def landed (c : Dev nD) (j : Fin 8) : sProp 𝕄 :=
  iprop(wHas m c j ∗ hPts m c j ∗ semVal ((c : Thread nD τ), .dma (wsem j)) 0)
/-- What signal `j` pays with: its token and the device's receive slot `j`. -/
def toSignal (c : Dev nD) (j : Fin 3) : sProp 𝕄 :=
  iprop(dutyTok ER (barCell (fwd c j)) 0 j ∗ (∃ f, rPts (F := F) c j f))

/-- The device's place among the four, as the kernel computes it. -/
abbrev place (c : Dev nD) : BitVec 32 := Scalar.remsi (Scalar.divsi (Dev.word c) 1#32) 4#32

/-- A program that only returns needs what it returns to. -/
theorem WP_ret {α : Type} {Q : α → sProp 𝕄} (a : α) : Q a ⊢ WP c (Prog.ret a) Q := by
  unfold WP
  rw [wp_ret]
  iintro H
  imodintro
  iexact H

/-- The first part starts the copies of weights 0 to 2. -/
theorem part1_spec {Q : (Σ' (d0 : Dev nD), BitVec 32) → sProp 𝕄} :
    iprop(idle m c 0 ∗ idle m c 1 ∗ idle m c 2)
      ⊢ iprop((iprop(copying m c 0 ∗ copying m c 1 ∗ copying m c 2) -∗ Q ⟨c, place c⟩) -∗ WP c (onBufs (k0_part1 (F := F))) Q) := by
  rw [k0_part1_eq_skeleton]; unfold onBufs k0_part1_skel
  simp only [Prog.lift, Prog.bind_op, Prog.bind_ret, Prog.pure_eq_ret, wp_deviceId]
  unfold idle
  iintro ⟨H0, H1, H2⟩ Hk
  iapply (copy_start m c 0) $$ [H0]; · iexact H0
  iintro H0
  iapply (copy_start m c 1) $$ [H1]; · iexact H1
  iintro H1
  iapply (copy_start m c 2) $$ [H2]; · iexact H2
  iintro H2
  iapply (WP_ret c)
  iapply Hk
  isplitl [H0]; · iexact H0
  isplitl [H1] <;> iassumption

/-- The second part starts the copies of weights 3 to 7. -/
theorem part2_spec {Q : (Σ' (v51 : Sems sig S_), BitVec 32) → sProp 𝕄} :
    iprop(idle m c 3 ∗ idle m c 4 ∗ idle m c 5 ∗ idle m c 6 ∗ idle m c 7)
      ⊢ iprop((iprop(copying m c 3 ∗ copying m c 4 ∗ copying m c 5 ∗ copying m c 6 ∗ copying m c 7)
          -∗ Q ⟨SemArray.scalar (sig.barrier 0 rfl), 1#32⟩) -∗ WP c (onBufs (k0_part2 (F := F))) Q) := by
  rw [k0_part2_eq_skeleton]; unfold onBufs k0_part2_skel
  simp only [Prog.lift, Prog.bind_op, Prog.bind_ret, Prog.pure_eq_ret]
  unfold idle
  iintro ⟨H3, H4, H5, H6, H7⟩ Hk
  iapply (copy_start m c 3) $$ [H3]; · iexact H3
  iintro H3
  iapply (copy_start m c 4) $$ [H4]; · iexact H4
  iintro H4
  iapply (copy_start m c 5) $$ [H5]; · iexact H5
  iintro H5
  iapply (copy_start m c 6) $$ [H6]; · iexact H6
  iintro H6
  iapply (copy_start m c 7) $$ [H7]; · iexact H7
  iintro H7
  iapply (WP_ret c)
  iapply Hk
  isplitl [H3]; · iexact H3
  isplitl [H4]; · iexact H4
  isplitl [H5]; · iexact H5
  isplitl [H6] <;> iassumption

variable (K : Dev nD × CK → ℕ)

/-- The third part signals the first two peers. -/
theorem part3_spec (v2 c1 : BitVec 32)
    {Q : (Σ' (v80 : BitVec 32) (v81 : BitVec 32) (v82 : BitVec 1) (v83 : BitVec 1), BitVec 32) → sProp 𝕄} :
    iprop(records m K ∗ owing c (O₀ c) ∗ toSignal c 0 ∗ toSignal c 1)
      ⊢ iprop((∀ r, owing c (OB2 c) -∗ Q r)
        -∗ WP c (onBufs (k0_part3 (F := F)) c v2 (SemArray.scalar (sig.barrier 0 rfl)) c1) Q) := by
  rw [k0_part3_eq_skeleton]; unfold onBufs k0_part3_skel
  simp only [semSignalWord, Prog.lift, Prog.bind_op, Prog.bind_ret, Prog.pure_eq_ret]
  unfold toSignal O₀
  iintro ⟨#HR, HO, ⟨Ht0, Hp0⟩, Ht1, Hp1⟩ Hk
  iapply (signal_step m c K 0 _ (dev1_eq c) (OB1 c)) $$ [HO Ht0 Hp0]
  · isplitr; · iexact HR
    isplitl [HO]; · iexact HO
    isplitl [Ht0] <;> iassumption
  iintro HO
  unfold OB1
  iapply (signal_step m c K 1 _ (dev2_eq c) (OB2 c)) $$ [HO Ht1 Hp1]
  · isplitr; · iexact HR
    isplitl [HO]; · iexact HO
    isplitl [Ht1] <;> iassumption
  iintro HO
  iapply (WP_ret c)
  iapply Hk
  iexact HO

/-- A staged block at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The fourth part signals the last peer, waits at the barrier and loads the experts asked for. -/
theorem part4_spec (v80 v81 : BitVec 32) (v82 v83 : BitVec 1) (v : BitVec 32)
    {Q : (Σ' (v92 : IVec S2048x1 32) (v110 : FVec F S2048x1 .f32) (v111 : IVec S1x512 32) (v112 : BitVec 32) (c64_i32 : BitVec 32) (v114 : IVec S1x512 32) (v121 : IVec S1x512 32), BitVec 32) → sProp 𝕄} :
    iprop(records m K ∗ owing c (OB2 c) ∗ toSignal c 2 ∗ cred (tallyAt (barCell c) () 3) ∗ levAts L lv ∗ atPos ER (barCell c) 0 ∅ 0
        ∗ stg c cc0_stg1_0 (eAt m c))
      ⊢ iprop((iprop(owing c (OR0 c) ∗ semVal (barCell c) 0 ∗ barPay c 0 ∗ barPay c 1 ∗ barPay c 2 ∗ stg c cc0_stg1_0 (eAt m c))
            -∗ Q ⟨k0_pay1 (eAt m c), k0_pay2 (eAt m c), iota .tc S1x512 32 [1] iota_S1x512_d1_w32, firstOf c, 64#32, k0_pay3, k0_pay4, sgn64⟩)
        -∗ WP c (onBufs (k0_part4 (F := F)) c (place c) (SemArray.scalar (sig.barrier 0 rfl)) v80 v81 v82 v83 v) Q) := by
  rw [k0_part4_eq_skeleton]; unfold onBufs k0_part4_skel
  simp only [semSignalWord, semWaitWord, Prog.lift, Prog.bind_op, Prog.bind_ret, Prog.pure_eq_ret]
  unfold toSignal OB2
  iintro ⟨#HR, HO, ⟨Ht, Hp⟩, Hc, #Hlev, Hat, ⟨%f, %hf, He⟩⟩ Hk
  subst hf
  iapply (signal_step m c K 2 _ (dev3_eq c) (OR0 c)) $$ [HO Ht Hp]
  · isplitr; · iexact HR
    isplitl [HO]; · iexact HO
    isplitl [Ht] <;> iassumption
  iintro HO
  iapply (bar_wait m c K) $$ [Hc HO Hat]
  · isplitr; · iexact HR
    isplitl [Hc]; · iexact Hc
    isplitl [HO]; · iexact HO
    isplitr; · iexact Hlev
    iexact Hat
  iintro ⟨HO, Hz, H0, H1, H2⟩
  iapply (wp_load 𝒱₀ (c : Thread nD τ) none Set.univ (m := eM) (Finset.subset_univ _)) $$ He; iintro He
  rw [show (eM).view.readAt (Elt F) (Rect.unit (s := S2048x1) ![0, 0] S2048x1.size inb_S2048x1_S2048x1_0_0).toLoadRect (eAt m c) = eAt m c from
    Memref.readAt_unit_zero (Elt F) cc0_stg1_0 hz _ _]
  iapply (WP_ret c)
  iapply Hk
  isplitl [HO]; · iexact HO
  isplitl [Hz]; · iexact Hz
  isplitl [H0]; · iexact H0
  isplitl [H1]; · iexact H1
  isplitl [H2]; · iexact H2
  iexists _
  isplitr; · (ipureintro; rfl)
  iexact He

/-- The matrix computed. -/
abbrev gHas (c : Dev nD) : sProp 𝕄 := ((c : Thread nD τ).loc cc0_scratch0) ↦{fullShare} (gAt m c)

/-- The fifth part stores the matrix. -/
theorem part5_spec {Q : FVec F S2048x512 .bf16 → sProp 𝕄} :
    iprop(∃ f : Buf (Elt F) ((c : Thread nD τ).loc cc0_scratch0), ((c : Thread nD τ).loc cc0_scratch0) ↦{fullShare} f)
      ⊢ iprop((gHas m c -∗ Q (gv m c))
        -∗ WP c (onBufs (k0_part5 (F := F)) (k0_pay1 (eAt m c)) (k0_pay2 (eAt m c)) (iota .tc S1x512 32 [1] iota_S1x512_d1_w32) (firstOf c) 64#32 k0_pay3 k0_pay4 sgn64) Q) := by
  rw [k0_part5_eq_skeleton]; unfold onBufs k0_part5_skel
  simp only [Prog.lift, Prog.bind_op, Prog.bind_ret, Prog.pure_eq_ret]
  unfold gv
  iintro ⟨%f, Hg⟩ Hk
  iapply (wp_load 𝒱₀ (c : Thread nD τ) none Set.univ (m := gM) (Finset.subset_univ _)) $$ Hg; iintro Hg
  iapply (wp_store 𝒱₀ (c : Thread nD τ) none Set.univ (m := gM)
    (r := Rect.unit (s := S2048x512) ![0, 0] S2048x512.size inb_S2048x512_S2048x512_0_0) (Mk := Finset.univ) (Finset.subset_univ _)) $$ Hg; iintro Hg
  iapply (WP_ret c)
  iapply Hk
  have h := Memref.write_access_unit_zero_univ (Elt F) cc0_scratch0 hz inb_S2048x512_S2048x512_0_0 f (gAt m c)
  unfold gHas
  rw [← h]
  iexact Hg

end Cert.KernelIdealRun

end
-- ==== Proof.RunKernelIdeal.PartsB.lean ====
/-
The printed parts six to nine: each expert's 64 rows, as its weight arrives.
-/
module

public import proofs.«01_k».proof.Proof.RunKernelIdeal.PartsA

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- Wait for weight `j` and load it. -/
theorem fetch_step {α : Type} {Q : α → sProp 𝕄} (j : Fin 8) {hsrc : (slot8 hM j).view.WordExact} {hdst : (slot8 wM j).view.WordExact}
    {hl : (wM).view.LoadsAt (r8 j).toLoadRect} {k : (Vec F S1x512x1024 .f32) → Prog (TpuEff nD τ sig (Elt F) Λ₀ .tc) α} :
    iprop(copying m c j ∗ owing c (OR0 c) ∗ levAts L lv)
      ⊢ iprop((iprop(landed m c j ∗ owing c (OR0 c)) -∗ WP c (k (wAt m c j)) Q)
        -∗ WP c (.op (.waitDma2 (wsem j) (slot8 hM j) (slot8 wM j) hsrc hdst) fun _ => .op (.load wM (r8 j).toLoadRect hl) k) Q) := by
  iintro H Hk
  iapply (copy_wait m c j) $$ [H]; · iexact H
  iintro ⟨Hw, Hh, Hz, HO⟩
  iapply (load_w m c j) $$ [Hw]; · iexact Hw
  iintro Hw
  iapply Hk
  unfold landed
  isplitr [HO]
  · isplitl [Hw]; · iexact Hw
    isplitl [Hh] <;> iassumption
  iexact HO

/-- Load the rows of expert `j` for nothing and store them. -/
theorem rows_step {α : Type} {Q : α → sProp 𝕄} (j : Fin 8) (n : ℕ) (hn : n = j.val) (v : Vec F S64x1024 .bf16) (hv : v = yPay m c j)
    {hl : (yM).view.LoadsAt (ry j).toLoadRect} {hx : (yM.access (ry j)).Stores Finset.univ}
    {hm : (Finset.univ : Finset (ry j).shape.Idx) = Finset.univ ∨ ∀ a, (ry j).stride a = 1}
    {k : PUnit → Prog (TpuEff nD τ sig (Elt F) Λ₀ .tc) α} :
    yHas m c n ⊢ iprop((yHas m c (n + 1) -∗ WP c (k ⟨⟩) Q)
      -∗ WP c (.op (.load yM (ry j).toLoadRect hl) fun _ => .op (.store yM (ry j) v Finset.univ hx hm) k) Q) := by
  subst hn hv
  iintro H Hk
  iapply (load_y_any m c j.val) $$ [H]; · iexact H
  iintro %_ H
  iapply (store_y m c j) $$ [H]; · iexact H
  iexact Hk

/-- The sixth part gathers the slots' tokens and stores expert 0's rows; weight 1 is loaded. -/
theorem part6_spec {Q : (Σ' (v177 : FVec F S512x512 .bf16), FVec F S64x1024 .bf16) → sProp 𝕄} :
    iprop(stg c cc0_stg0_0 (xAt m c) ∗ yHas m c 0 ∗ copying m c 0 ∗ copying m c 1 ∗ owing c (OR0 c) ∗ levAts L lv)
      ⊢ iprop((iprop(stg c cc0_stg0_0 (xAt m c) ∗ yHas m c 1 ∗ landed m c 0 ∗ landed m c 1 ∗ owing c (OR0 c))
            -∗ Q ⟨xg m c, k0_pay9 (gv m c) (xAt m c) (wAt m c 1)⟩)
        -∗ WP c (onBufs (k0_part6 (F := F)) (gv m c)) Q) := by
  rw [k0_part6_eq_skeleton]; unfold onBufs k0_part6_skel
  simp only [Prog.lift, Prog.bind_op, Prog.bind_ret, Prog.pure_eq_ret]
  unfold xg
  iintro ⟨⟨%f, %hf, Hx⟩, Hy, H0, H1, HO, #Hlev⟩ Hk
  subst hf
  iapply (wp_load 𝒱₀ (c : Thread nD τ) none Set.univ (m := xM) (Finset.subset_univ _)) $$ Hx; iintro Hx
  rw [show (xM).view.readAt (Elt F) (Rect.unit (s := S2048x512) ![0, 0] S2048x512.size inb_S2048x512_S2048x512_0_0).toLoadRect (xAt m c) = xAt m c from
    Memref.readAt_unit_zero (Elt F) cc0_stg0_0 hz _ _]
  iapply (fetch_step m c 0) $$ [H0 HO]
  · isplitl [H0]; · iexact H0
    isplitl [HO]; · iexact HO
    iexact Hlev
  iintro ⟨H0, HO⟩
  iapply (rows_step m c 0 0 rfl _ rfl) $$ [Hy]; · iexact Hy
  iintro Hy
  iapply (fetch_step m c 1) $$ [H1 HO]
  · isplitl [H1]; · iexact H1
    isplitl [HO]; · iexact HO
    iexact Hlev
  iintro ⟨H1, HO⟩
  iapply (WP_ret c)
  iapply Hk
  isplitl [Hx]
  · iexists _
    isplitr; · (ipureintro; rfl)
    iexact Hx
  isplitl [Hy]; · iexact Hy
  isplitl [H0]; · iexact H0
  isplitl [H1] <;> iassumption

/-- The seventh part stores the rows of experts 1 and 2; weight 3 is loaded. -/
theorem part7_spec {Q : FVec F S64x1024 .bf16 → sProp 𝕄} :
    iprop(yHas m c 1 ∗ copying m c 2 ∗ copying m c 3 ∗ owing c (OR0 c) ∗ levAts L lv)
      ⊢ iprop((iprop(yHas m c 3 ∗ landed m c 2 ∗ landed m c 3 ∗ owing c (OR0 c)) -∗ Q (k0_pay12 (xg m c) (wAt m c 3)))
        -∗ WP c (onBufs (k0_part7 (F := F)) (xg m c) (k0_pay9 (gv m c) (xAt m c) (wAt m c 1))) Q) := by
  rw [k0_part7_eq_skeleton]; unfold onBufs k0_part7_skel
  simp only [Prog.lift, Prog.bind_op, Prog.bind_ret, Prog.pure_eq_ret]
  iintro ⟨Hy, H0, H1, HO, #Hlev⟩ Hk
  iapply (rows_step m c 1 1 rfl _ rfl) $$ [Hy]; · iexact Hy
  iintro Hy
  iapply (fetch_step m c 2) $$ [H0 HO]
  · isplitl [H0]; · iexact H0
    isplitl [HO]; · iexact HO
    iexact Hlev
  iintro ⟨H0, HO⟩
  iapply (rows_step m c 2 2 rfl _ rfl) $$ [Hy]; · iexact Hy
  iintro Hy
  iapply (fetch_step m c 3) $$ [H1 HO]
  · isplitl [H1]; · iexact H1
    isplitl [HO]; · iexact HO
    iexact Hlev
  iintro ⟨H1, HO⟩
  iapply (WP_ret c)
  iapply Hk
  isplitl [Hy]; · iexact Hy
  isplitl [H0]; · iexact H0
  isplitl [H1] <;> iassumption

/-- The eighth part stores the rows of experts 3 and 4; weight 5 is loaded. -/
theorem part8_spec {Q : FVec F S64x1024 .bf16 → sProp 𝕄} :
    iprop(yHas m c 3 ∗ copying m c 4 ∗ copying m c 5 ∗ owing c (OR0 c) ∗ levAts L lv)
      ⊢ iprop((iprop(yHas m c 5 ∗ landed m c 4 ∗ landed m c 5 ∗ owing c (OR0 c)) -∗ Q (k0_pay15 (xg m c) (wAt m c 5)))
        -∗ WP c (onBufs (k0_part8 (F := F)) (xg m c) (k0_pay12 (xg m c) (wAt m c 3))) Q) := by
  rw [k0_part8_eq_skeleton]; unfold onBufs k0_part8_skel
  simp only [Prog.lift, Prog.bind_op, Prog.bind_ret, Prog.pure_eq_ret]
  iintro ⟨Hy, H0, H1, HO, #Hlev⟩ Hk
  iapply (rows_step m c 3 3 rfl _ rfl) $$ [Hy]; · iexact Hy
  iintro Hy
  iapply (fetch_step m c 4) $$ [H0 HO]
  · isplitl [H0]; · iexact H0
    isplitl [HO]; · iexact HO
    iexact Hlev
  iintro ⟨H0, HO⟩
  iapply (rows_step m c 4 4 rfl _ rfl) $$ [Hy]; · iexact Hy
  iintro Hy
  iapply (fetch_step m c 5) $$ [H1 HO]
  · isplitl [H1]; · iexact H1
    isplitl [HO]; · iexact HO
    iexact Hlev
  iintro ⟨H1, HO⟩
  iapply (WP_ret c)
  iapply Hk
  isplitl [Hy]; · iexact Hy
  isplitl [H0]; · iexact H0
  isplitl [H1] <;> iassumption

/-- The ninth part stores the rows of experts 5 and 6; weight 7 is loaded. -/
theorem part9_spec {Q : FVec F S64x1024 .bf16 → sProp 𝕄} :
    iprop(yHas m c 5 ∗ copying m c 6 ∗ copying m c 7 ∗ owing c (OR0 c) ∗ levAts L lv)
      ⊢ iprop((iprop(yHas m c 7 ∗ landed m c 6 ∗ landed m c 7 ∗ owing c (OR0 c)) -∗ Q (k0_pay18 (xg m c) (wAt m c 7)))
        -∗ WP c (onBufs (k0_part9 (F := F)) (xg m c) (k0_pay15 (xg m c) (wAt m c 5))) Q) := by
  rw [k0_part9_eq_skeleton]; unfold onBufs k0_part9_skel
  simp only [Prog.lift, Prog.bind_op, Prog.bind_ret, Prog.pure_eq_ret]
  iintro ⟨Hy, H0, H1, HO, #Hlev⟩ Hk
  iapply (rows_step m c 5 5 rfl _ rfl) $$ [Hy]; · iexact Hy
  iintro Hy
  iapply (fetch_step m c 6) $$ [H0 HO]
  · isplitl [H0]; · iexact H0
    isplitl [HO]; · iexact HO
    iexact Hlev
  iintro ⟨H0, HO⟩
  iapply (rows_step m c 6 6 rfl _ rfl) $$ [Hy]; · iexact Hy
  iintro Hy
  iapply (fetch_step m c 7) $$ [H1 HO]
  · isplitl [H1]; · iexact H1
    isplitl [HO]; · iexact HO
    iexact Hlev
  iintro ⟨H1, HO⟩
  iapply (WP_ret c)
  iapply Hk
  isplitl [Hy]; · iexact Hy
  isplitl [H0]; · iexact H0
  isplitl [H1] <;> iassumption

end Cert.KernelIdealRun

end
-- ==== Proof.RunKernelIdeal.PartsC.lean ====
/-
The printed parts ten to fourteen: the chunks sent, the received chunks added up.
-/
module

public import proofs.«01_k».proof.Proof.RunKernelIdeal.PartsB

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- Chunk `i` made ready: the matrix' rows and the slots' rows loaded, the send slot loaded for nothing and stored. -/
theorem chunk_step {α : Type} {Q : α → sProp 𝕄} (i : Fin 3) (w : BitVec 32) (hw : w = BitVec.ofNat 32 (1 + i.val))
    {inb : ∀ a, k0_off1 c w a + S512x512.size a ≤ S2048x512.size a}
    (pay : Vec F S512x512 .bf16 → Vec F S512x1024 .bf16 → Vec F S1x512x1024 .bf16)
    (hv : pay (gChunk m c i) (yAt m c) = sendVal m c i)
    {hlg : (gM).view.LoadsAt (Rect.unit (s := S2048x512) (k0_off1 c w) S512x512.size inb).toLoadRect}
    {hly : (yM).view.LoadsAt (Rect.unit (s := S512x1024) ![0, 0] S512x1024.size inb_S512x1024_S512x1024_0_0).toLoadRect}
    {hls : (sM).view.LoadsAt (r3 i).toLoadRect} {hx : (sM.access (r3 i)).Stores Finset.univ}
    {hm : (Finset.univ : Finset (r3 i).shape.Idx) = Finset.univ ∨ ∀ a, (r3 i).stride a = 1}
    {k : PUnit → Prog (TpuEff nD τ sig (Elt F) Λ₀ .tc) α} :
    iprop(gHas m c ∗ yHas m c 8 ∗ (∃ f, sPts c i f))
      ⊢ iprop((iprop(gHas m c ∗ yHas m c 8 ∗ sHas c i (sendVal m c i)) -∗ WP c (k ⟨⟩) Q)
        -∗ WP c (.op (.load gM (Rect.unit (s := S2048x512) (k0_off1 c w) S512x512.size inb).toLoadRect hlg) fun g =>
            .op (.load yM (Rect.unit (s := S512x1024) ![0, 0] S512x1024.size inb_S512x1024_S512x1024_0_0).toLoadRect hly) fun y =>
            .op (.load sM (r3 i).toLoadRect hls) fun _ =>
            .op (.store sM (r3 i) (pay g y) Finset.univ hx hm) k) Q) := by
  subst hw
  iintro ⟨Hg, Hy, Hs⟩ Hk
  unfold gHas
  iapply (wp_load 𝒱₀ (c : Thread nD τ) none Set.univ (m := gM) (Finset.subset_univ _)) $$ Hg; iintro Hg
  iapply (load_y m c) $$ [Hy]; · iexact Hy
  iintro Hy
  iapply (load_s c i) $$ [Hs]; · iexact Hs
  iintro %_ Hs
  rw [show pay ((gM).view.readAt (Elt F) (Rect.unit (s := S2048x512) (k0_off1 c (BitVec.ofNat 32 (1 + i.val))) S512x512.size inb).toLoadRect (gAt m c))
    (yAt m c) = sendVal m c i from hv]
  iapply (store_s c i (sendVal m c i)) $$ [Hs]; · iexact Hs
  iintro Hs
  iapply Hk
  isplitl [Hg]; · iexact Hg
  isplitl [Hy] <;> iassumption

/-- The tenth part stores the rows of expert 7 and makes chunk 0 ready. -/
theorem part10_spec (v2 : BitVec 32) {Q : BitVec 32 → sProp 𝕄} :
    iprop(yHas m c 7 ∗ gHas m c ∗ (∃ f, sPts c 0 f))
      ⊢ iprop((∀ r, iprop(gHas m c ∗ yHas m c 8 ∗ sHas c 0 (sendVal m c 0)) -∗ Q r)
        -∗ WP c (onBufs (k0_part10 (F := F)) c v2 (k0_pay18 (xg m c) (wAt m c 7))) Q) := by
  rw [k0_part10_eq_skeleton]; unfold onBufs k0_part10_skel
  simp only [Prog.lift, Prog.bind_op, Prog.bind_ret, Prog.pure_eq_ret]
  iintro ⟨Hy, Hg, Hs⟩ Hk
  iapply (rows_step m c 7 7 rfl _ rfl) $$ [Hy]; · iexact Hy
  iintro Hy
  iapply (chunk_step m c 0 1#32 rfl k0_pay20 rfl) $$ [Hg Hy Hs]
  · isplitl [Hg]; · iexact Hg
    isplitl [Hy] <;> iassumption
  iintro H
  iapply (WP_ret c)
  iapply Hk
  iexact H

variable (K : Dev nD × CK → ℕ)

/-- What send `i` needs: its tokens and the slot it fills, handed over at the barrier. -/
def toSend (c : Dev nD) (i : Fin 3) : sProp 𝕄 :=
  iprop(barPay (F := F) c (Fin.rev i) ∗ dutyTok ER (sendCell c i) 0 0 ∗ dutyTok ER (recvCell (fwd c i) (Fin.rev i)) 0 0)

/-- The eleventh part sends chunk 0, makes chunk 1 ready and sends it. -/
theorem part11_spec (v2 : BitVec 32) {Q : BitVec 32 → sProp 𝕄} :
    iprop(records m K ∗ gHas m c ∗ yHas m c 8 ∗ sHas c 0 (sendVal m c 0) ∗ (∃ f, sPts c 1 f) ∗ toSend c 0 ∗ toSend c 1 ∗ owing c (OR0 c))
      ⊢ iprop((∀ r, iprop(gHas m c ∗ yHas m c 8 ∗ cred (tallyAt (sendCell c 0) () N) ∗ cred (tallyAt (sendCell c 1) () N) ∗ owing c (OR2 c)) -∗ Q r)
        -∗ WP c (onBufs (k0_part11 (F := F)) c v2) Q) := by
  rw [k0_part11_eq_skeleton]; unfold onBufs k0_part11_skel
  simp only [Prog.lift, Prog.bind_op, Prog.bind_ret, Prog.pure_eq_ret]
  unfold toSend OR0
  iintro ⟨#HR, Hg, Hy, Hs0, Hs1, ⟨Hb0, Ht0, Hu0⟩, ⟨Hb1, Ht1, Hu1⟩, HO⟩ Hk
  iapply (send_step m c K 0 2 rfl _ (dev4_eq c) (OR1 c)) $$ [Hs0 Hb0 HO Ht0 Hu0]
  · isplitr; · iexact HR
    isplitl [Hs0]; · iexact Hs0
    isplitl [Hb0]; · iexact Hb0
    isplitl [HO]; · iexact HO
    isplitl [Ht0] <;> iassumption
  iintro ⟨Hc0, HO⟩
  unfold OR1
  iapply (chunk_step m c 1 2#32 rfl k0_pay21 rfl) $$ [Hg Hy Hs1]
  · isplitl [Hg]; · iexact Hg
    isplitl [Hy] <;> iassumption
  iintro ⟨Hg, Hy, Hs1⟩
  iapply (send_step m c K 1 1 rfl _ (dev5_eq c) (OR2 c)) $$ [Hs1 Hb1 HO Ht1 Hu1]
  · isplitr; · iexact HR
    isplitl [Hs1]; · iexact Hs1
    isplitl [Hb1]; · iexact Hb1
    isplitl [HO]; · iexact HO
    isplitl [Ht1] <;> iassumption
  iintro ⟨Hc1, HO⟩
  iapply (WP_ret c)
  iapply Hk
  isplitl [Hg]; · iexact Hg
  isplitl [Hy]; · iexact Hy
  isplitl [Hc0]; · iexact Hc0
  isplitl [Hc1] <;> iassumption

/-- The twelfth part makes chunk 2 ready and sends it. -/
theorem part12_spec (v2 : BitVec 32) {Q : BitVec 32 → sProp 𝕄} :
    iprop(records m K ∗ gHas m c ∗ yHas m c 8 ∗ (∃ f, sPts c 2 f) ∗ toSend c 2 ∗ owing c (OR2 c))
      ⊢ iprop((∀ r, iprop(gHas m c ∗ yHas m c 8 ∗ cred (tallyAt (sendCell c 2) () N) ∗ owing c 0) -∗ Q r)
        -∗ WP c (onBufs (k0_part12 (F := F)) c v2) Q) := by
  rw [k0_part12_eq_skeleton]; unfold onBufs k0_part12_skel
  simp only [Prog.lift, Prog.bind_op, Prog.bind_ret, Prog.pure_eq_ret]
  unfold toSend OR2
  rw [show owing (F := F) c (owR c 2) = owing c (0 + owR c 2) from by rw [zero_add]]
  iintro ⟨#HR, Hg, Hy, Hs, ⟨Hb, Ht, Hu⟩, HO⟩ Hk
  iapply (chunk_step m c 2 3#32 rfl k0_pay22 rfl) $$ [Hg Hy Hs]
  · isplitl [Hg]; · iexact Hg
    isplitl [Hy] <;> iassumption
  iintro ⟨Hg, Hy, Hs⟩
  iapply (send_step m c K 2 0 rfl _ (dev6_eq c) 0) $$ [Hs Hb HO Ht Hu]
  · isplitr; · iexact HR
    isplitl [Hs]; · iexact Hs
    isplitl [Hb]; · iexact Hb
    isplitl [HO]; · iexact HO
    isplitl [Ht] <;> iassumption
  iintro ⟨Hc, HO⟩
  iapply (WP_ret c)
  iapply Hk
  isplitl [Hg]; · iexact Hg
  isplitl [Hy]; · iexact Hy
  isplitl [Hc] <;> iassumption

/-- What the wait on a cell needs: its credit and the device's position. -/
def toWait (c : Dev nD) (bj : Bool × Fin 3) : sProp 𝕄 :=
  iprop(cred (tallyAt (kcell (c, some bj)) () N) ∗ atPos ER (kcell (c, some bj)) 0 ∅ 0)

/-- Wait for receive slot `j` and load it. -/
theorem arrive_step {α : Type} {Q : α → sProp 𝕄} (j : Fin 3) {a : Memref sig .tc .vmem S512x1024 .bf16}
    {hsrc : a.view.WordExact} {hdst : (slot3 rM j).view.WordExact} {hl : (rM).view.LoadsAt (r3 j).toLoadRect}
    {k : (Vec F S1x512x1024 .bf16) → Prog (TpuEff nD τ sig (Elt F) Λ₀ .tc) α} :
    iprop(records m K ∗ toWait c (true, j) ∗ owing c 0)
      ⊢ iprop((iprop(owing c 0 ∗ semVal (recvCell c j) 0 ∗ rHas c j (recvVal m c j)) -∗ WP c (k (recvVal m c j)) Q)
        -∗ WP c (.op (.waitDma2 (rsem j) a (slot3 rM j) hsrc hdst) fun _ => .op (.load rM (r3 j).toLoadRect hl) k) Q) := by
  unfold toWait
  iintro ⟨#HR, ⟨Hc, Hat⟩, HO⟩ Hk
  iapply (xfer_wait m c K (true, j) (sem := rsem j) rfl (b := slot3 rM j) rfl) $$ [Hc Hat HO]
  · isplitr; · iexact HR
    isplitl [Hc]; · iexact Hc
    isplitl [HO] <;> iassumption
  unfold payOf
  dsimp only
  iintro ⟨HO, Hz, Hr⟩
  iapply (load_r c j (recvVal m c j)) $$ [Hr]; · iexact Hr
  iintro Hr
  iapply Hk
  isplitl [HO]; · iexact HO
  isplitl [Hz] <;> iassumption

/-- Wait for send `i` to be done. -/
theorem sent_step {α : Type} {Q : α → sProp 𝕄} (i : Fin 3) {a : Memref sig .tc .vmem S512x1024 .bf16}
    {hsrc : a.view.WordExact} {hdst : (slot3 sM i).view.WordExact}
    {k : PUnit → Prog (TpuEff nD τ sig (Elt F) Λ₀ .tc) α} :
    iprop(records m K ∗ toWait c (false, i) ∗ owing c 0)
      ⊢ iprop((iprop(owing c 0 ∗ semVal (sendCell c i) 0 ∗ (∃ f, sPts c i f)) -∗ WP c (k ⟨⟩) Q)
        -∗ WP c (.op (.waitDma2 (ssem i) a (slot3 sM i) hsrc hdst) k) Q) := by
  unfold toWait
  iintro ⟨#HR, ⟨Hc, Hat⟩, HO⟩ Hk
  iapply (xfer_wait m c K (false, i) (sem := ssem i) rfl (b := slot3 sM i) rfl) $$ [Hc Hat HO]
  · isplitr; · iexact HR
    isplitl [Hc]; · iexact Hc
    isplitl [HO] <;> iassumption
  unfold payOf
  dsimp only
  iexact Hk

/-- What the wait for receive slot `j` leaves. -/
def arrived (c : Dev nD) (j : Fin 3) : sProp 𝕄 := iprop(semVal (recvCell c j) 0 ∗ rHas c j (recvVal m c j))
/-- What the wait for send `i` leaves. -/
def sent (c : Dev nD) (i : Fin 3) : sProp 𝕄 := iprop(semVal (sendCell c i) 0 ∗ (∃ f, sPts (F := F) c i f))

/-- The thirteenth part computes the device's own rows and adds the first two chunks that arrive. -/
theorem part13_spec (v308 v338 : BitVec 32) {Q : FVec F S512x1024 .f32 → sProp 𝕄} :
    iprop(records m K ∗ gHas m c ∗ yHas m c 8 ∗ toWait c (true, 2) ∗ toWait c (true, 1) ∗ owing c 0)
      ⊢ iprop((iprop(gHas m c ∗ yHas m c 8 ∗ arrived m c 2 ∗ arrived m c 1 ∗ owing c 0)
            -∗ Q (k0_pay23 (gOwn m c) (yAt m c) (recvVal m c 2) (recvVal m c 1)))
        -∗ WP c (onBufs (k0_part13 (F := F)) c v308 v338) Q) := by
  rw [k0_part13_eq_skeleton]; unfold onBufs k0_part13_skel
  simp only [Prog.lift, Prog.bind_op, Prog.bind_ret, Prog.pure_eq_ret]
  unfold gHas gOwn
  iintro ⟨#HR, Hg, Hy, H2, H1, HO⟩ Hk
  iapply (wp_load 𝒱₀ (c : Thread nD τ) none Set.univ (m := gM) (Finset.subset_univ _)) $$ Hg; iintro Hg
  iapply (load_y m c) $$ [Hy]; · iexact Hy
  iintro Hy
  iapply (arrive_step m c K 2) $$ [H2 HO]
  · isplitr; · iexact HR
    isplitl [H2] <;> iassumption
  iintro ⟨HO, Hz2, Hr2⟩
  iapply (arrive_step m c K 1) $$ [H1 HO]
  · isplitr; · iexact HR
    isplitl [H1] <;> iassumption
  iintro ⟨HO, Hz1, Hr1⟩
  iapply (WP_ret c)
  iapply Hk
  unfold arrived
  isplitl [Hg]; · iexact Hg
  isplitl [Hy]; · iexact Hy
  isplitl [Hz2 Hr2]; · isplitl [Hz2] <;> iassumption
  isplitl [Hz1 Hr1]; · isplitl [Hz1] <;> iassumption
  iexact HO

/-- The fourteenth part takes the last chunk that arrives and waits for the first two sends. -/
theorem part14_spec (v368 : BitVec 32) (v416 : FVec F S512x1024 .f32) {Q : FVec F S512x1024 .f32 → sProp 𝕄} :
    iprop(records m K ∗ toWait c (true, 0) ∗ toWait c (false, 0) ∗ toWait c (false, 1) ∗ owing c 0)
      ⊢ iprop((iprop(arrived m c 0 ∗ sent c 0 ∗ sent c 1 ∗ owing c 0) -∗ Q (k0_pay24 v416 (recvVal m c 0)))
        -∗ WP c (onBufs (k0_part14 (F := F)) v368 v416) Q) := by
  rw [k0_part14_eq_skeleton]; unfold onBufs k0_part14_skel
  simp only [Prog.lift, Prog.bind_op, Prog.bind_ret, Prog.pure_eq_ret]
  iintro ⟨#HR, H0, Hs0, Hs1, HO⟩ Hk
  iapply (arrive_step m c K 0) $$ [H0 HO]
  · isplitr; · iexact HR
    isplitl [H0] <;> iassumption
  iintro ⟨HO, Hz0, Hr0⟩
  iapply (sent_step m c K 0) $$ [Hs0 HO]
  · isplitr; · iexact HR
    isplitl [Hs0] <;> iassumption
  iintro ⟨HO, Hz1, Hs0⟩
  iapply (sent_step m c K 1) $$ [Hs1 HO]
  · isplitr; · iexact HR
    isplitl [Hs1] <;> iassumption
  iintro ⟨HO, Hz2, Hs1⟩
  iapply (WP_ret c)
  iapply Hk
  unfold arrived sent
  isplitl [Hz0 Hr0]; · isplitl [Hz0] <;> iassumption
  isplitl [Hz1 Hs0]; · isplitl [Hz1] <;> iassumption
  isplitl [Hz2 Hs1]; · isplitl [Hz2] <;> iassumption
  iexact HO

end Cert.KernelIdealRun

end
-- ==== Proof.RunKernelIdeal.Core.lean ====
/-
The kernel's body on one device: its parts one after another.
-/
module

public import proofs.«01_k».proof.Proof.RunKernelIdeal.PartsC

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-- A part followed by the rest. -/
theorem WP_bind {α β : Type} {Q : β → sProp 𝕄} (p : Prog (TpuEff nD τ sig (Elt F) Λ₀ .tc) α) (k : α → Prog (TpuEff nD τ sig (Elt F) Λ₀ .tc) β) :
    WP c p (fun a => WP c (k a) Q) ⊢ WP c (p >>= k) Q := by
  unfold WP
  exact Entails.of_eq (wp_bind _ _ _ _ _ _).symm

/-- What the body starts from, the receive slots' duties and the waits' positions written out. -/
def corePre (c : Dev nD) : sProp 𝕄 :=
  iprop(records m K ∗ levAts L lv ∗ owing c (O₀ c)
    ∗ (idle m c 0 ∗ idle m c 1 ∗ idle m c 2 ∗ idle m c 3 ∗ idle m c 4 ∗ idle m c 5 ∗ idle m c 6 ∗ idle m c 7)
    ∗ (toSignal c 0 ∗ toSignal c 1 ∗ toSignal c 2)
    ∗ (cred (tallyAt (barCell c) () 3) ∗ atPos ER (barCell c) 0 ∅ 0)
    ∗ (stg c cc0_stg1_0 (eAt m c) ∗ stg c cc0_stg0_0 (xAt m c)
      ∗ (∃ f : Buf (Elt F) ((c : Thread nD τ).loc cc0_stg2_0), ((c : Thread nD τ).loc cc0_stg2_0) ↦{fullShare} f))
    ∗ ((∃ f : Buf (Elt F) ((c : Thread nD τ).loc cc0_scratch0), ((c : Thread nD τ).loc cc0_scratch0) ↦{fullShare} f) ∗ yHas m c 0)
    ∗ ((∃ f, sPts c 0 f) ∗ (∃ f, sPts c 1 f) ∗ (∃ f, sPts c 2 f))
    ∗ (dutyTok ER (sendCell c 0) 0 0 ∗ dutyTok ER (sendCell c 1) 0 0 ∗ dutyTok ER (sendCell c 2) 0 0)
    ∗ (dutyTok ER (recvCell (fwd c 0) (Fin.rev 0)) 0 0 ∗ dutyTok ER (recvCell (fwd c 1) (Fin.rev 1)) 0 0 ∗ dutyTok ER (recvCell (fwd c 2) (Fin.rev 2)) 0 0)
    ∗ (toWait c (true, 0) ∗ toWait c (true, 1) ∗ toWait c (true, 2))
    ∗ (atPos ER (sendCell c 0) 0 ∅ 0 ∗ atPos ER (sendCell c 1) 0 ∅ 0 ∗ atPos ER (sendCell c 2) 0 ∅ 0))

/-- What the body ends with. -/
def corePost (c : Dev nD) : sProp 𝕄 :=
  iprop(owing c 0
    ∗ (landed m c 0 ∗ landed m c 1 ∗ landed m c 2 ∗ landed m c 3 ∗ landed m c 4 ∗ landed m c 5 ∗ landed m c 6 ∗ landed m c 7)
    ∗ semVal (barCell c) 0
    ∗ (stg c cc0_stg1_0 (eAt m c) ∗ stg c cc0_stg0_0 (xAt m c) ∗ stg c cc0_stg2_0 (outAt m c))
    ∗ (gHas m c ∗ yHas m c 8)
    ∗ (arrived m c 0 ∗ arrived m c 1 ∗ arrived m c 2)
    ∗ (sent c 0 ∗ sent c 1 ∗ sent c 2))

set_option maxHeartbeats 1000000 in
/-- The body, from what it starts with to what it ends with. -/
theorem core_spec {Q : PUnit → sProp 𝕄} :
    corePre m K c ⊢ iprop((corePost m c -∗ Q ⟨⟩) -∗ WP c (onBufs (cc0_body (F := F))) Q) := by
  rw [cc0_body_eq_skeleton]; unfold onBufs cc0_body_skel corePre
  iintro ⟨#HR, #Hlev, HO, ⟨W0, W1, W2, W3, W4, W5, W6, W7⟩, ⟨S0, S1, S2⟩, ⟨Hcb, Hab⟩, ⟨He, Hx, Ho⟩, ⟨Hg, Hy⟩, ⟨P0, P1, P2⟩, ⟨D0, D1, D2⟩, ⟨R0, R1, R2⟩,
    ⟨A0, A1, A2⟩, ⟨B0, B1, B2⟩⟩ Hk
  iapply (WP_bind c)
  iapply (part1_spec m c) $$ [W0 W1 W2]
  · isplitl [W0]; · iexact W0
    isplitl [W1] <;> iassumption
  iintro ⟨W0, W1, W2⟩
  dsimp only
  iapply (WP_bind c)
  iapply (part2_spec m c) $$ [W3 W4 W5 W6 W7]
  · isplitl [W3]; · iexact W3
    isplitl [W4]; · iexact W4
    isplitl [W5]; · iexact W5
    isplitl [W6] <;> iassumption
  iintro ⟨W3, W4, W5, W6, W7⟩
  dsimp only
  iapply (WP_bind c)
  iapply (part3_spec m c K) $$ [HO S0 S1]
  · isplitr; · iexact HR
    isplitl [HO]; · iexact HO
    isplitl [S0] <;> iassumption
  iintro %r HO
  rcases r with ⟨v80, v81, v82, v83, v⟩
  dsimp only
  iapply (WP_bind c)
  iapply (part4_spec m c K) $$ [HO S2 Hcb Hab He]
  · isplitr; · iexact HR
    isplitl [HO]; · iexact HO
    isplitl [S2]; · iexact S2
    isplitl [Hcb]; · iexact Hcb
    isplitr; · iexact Hlev
    isplitl [Hab] <;> iassumption
  iintro ⟨HO, Hz, Q0, Q1, Q2, He⟩
  dsimp only
  iapply (WP_bind c)
  iapply (part5_spec m c) $$ [Hg]; · iexact Hg
  iintro Hg
  iapply (WP_bind c)
  iapply (part6_spec m c) $$ [Hx Hy W0 W1 HO]
  · isplitl [Hx]; · iexact Hx
    isplitl [Hy]; · iexact Hy
    isplitl [W0]; · iexact W0
    isplitl [W1]; · iexact W1
    isplitl [HO]; · iexact HO
    iexact Hlev
  iintro ⟨Hx, Hy, W0, W1, HO⟩
  dsimp only
  iapply (WP_bind c)
  iapply (part7_spec m c) $$ [Hy W2 W3 HO]
  · isplitl [Hy]; · iexact Hy
    isplitl [W2]; · iexact W2
    isplitl [W3]; · iexact W3
    isplitl [HO]; · iexact HO
    iexact Hlev
  iintro ⟨Hy, W2, W3, HO⟩
  iapply (WP_bind c)
  iapply (part8_spec m c) $$ [Hy W4 W5 HO]
  · isplitl [Hy]; · iexact Hy
    isplitl [W4]; · iexact W4
    isplitl [W5]; · iexact W5
    isplitl [HO]; · iexact HO
    iexact Hlev
  iintro ⟨Hy, W4, W5, HO⟩
  iapply (WP_bind c)
  iapply (part9_spec m c) $$ [Hy W6 W7 HO]
  · isplitl [Hy]; · iexact Hy
    isplitl [W6]; · iexact W6
    isplitl [W7]; · iexact W7
    isplitl [HO]; · iexact HO
    iexact Hlev
  iintro ⟨Hy, W6, W7, HO⟩
  iapply (WP_bind c)
  iapply (part10_spec m c) $$ [Hy Hg P0]
  · isplitl [Hy]; · iexact Hy
    isplitl [Hg] <;> iassumption
  iintro %r10 ⟨Hg, Hy, P0⟩
  iapply (WP_bind c)
  iapply (part11_spec m c K) $$ [Hg Hy P0 P1 Q2 D0 R0 Q1 D1 R1 HO]
  · isplitr; · iexact HR
    isplitl [Hg]; · iexact Hg
    isplitl [Hy]; · iexact Hy
    isplitl [P0]; · iexact P0
    isplitl [P1]; · iexact P1
    unfold toSend
    isplitl [Q2 D0 R0]
    · isplitl [Q2]; · iexact Q2
      isplitl [D0]; · iexact D0
      iexact R0
    isplitl [Q1 D1 R1]
    · isplitl [Q1]; · iexact Q1
      isplitl [D1]; · iexact D1
      iexact R1
    iexact HO
  iintro %r11 ⟨Hg, Hy, C0, C1, HO⟩
  iapply (WP_bind c)
  iapply (part12_spec m c K) $$ [Hg Hy P2 Q0 D2 R2 HO]
  · isplitr; · iexact HR
    isplitl [Hg]; · iexact Hg
    isplitl [Hy]; · iexact Hy
    isplitl [P2]; · iexact P2
    unfold toSend
    isplitl [Q0 D2 R2]
    · isplitl [Q0]; · iexact Q0
      isplitl [D2]; · iexact D2
      iexact R2
    iexact HO
  iintro %r12 ⟨Hg, Hy, C2, HO⟩
  iapply (WP_bind c)
  iapply (part13_spec m c K) $$ [Hg Hy A2 A1 HO]
  · isplitr; · iexact HR
    isplitl [Hg]; · iexact Hg
    isplitl [Hy]; · iexact Hy
    isplitl [A2]; · iexact A2
    isplitl [A1] <;> iassumption
  iintro ⟨Hg, Hy, A2, A1, HO⟩
  iapply (WP_bind c)
  iapply (part14_spec m c K) $$ [A0 C0 B0 C1 B1 HO]
  · isplitr; · iexact HR
    isplitl [A0]; · iexact A0
    isplitl [C0 B0]
    · unfold toWait
      isplitl [C0]; · iexact C0
      iexact B0
    isplitl [C1 B1]
    · unfold toWait
      isplitl [C1]; · iexact C1
      iexact B1
    iexact HO
  iintro ⟨A0, P0, P1, HO⟩
  simp only [Prog.lift, Prog.bind_op, Prog.bind_ret, Prog.pure_eq_ret]
  iapply (sent_step m c K 2) $$ [C2 B2 HO]
  · isplitr; · iexact HR
    isplitl [C2 B2]
    · unfold toWait
      isplitl [C2]; · iexact C2
      iexact B2
    iexact HO
  iintro ⟨HO, Z2, P2⟩
  icases Ho with ⟨%fo, Ho⟩
  iapply (wp_load 𝒱₀ (c : Thread nD τ) none Set.univ (m := oM) (Finset.subset_univ _)) $$ Ho; iintro Ho
  iapply (wp_store 𝒱₀ (c : Thread nD τ) none Set.univ (m := oM)
    (r := Rect.unit (s := S512x1024) ![0, 0] S512x1024.size inb_S512x1024_S512x1024_0_0) (Mk := Finset.univ) (Finset.subset_univ _)) $$ Ho; iintro Ho
  have hw := Memref.write_access_unit_zero_univ (Elt F) cc0_stg2_0 hz inb_S512x1024_S512x1024_0_0 fo (outAt m c)
  iapply (WP_ret c)
  iapply Hk
  unfold corePost
  isplitl [HO]; · iexact HO
  isplitl [W0 W1 W2 W3 W4 W5 W6 W7]
  · isplitl [W0]; · iexact W0
    isplitl [W1]; · iexact W1
    isplitl [W2]; · iexact W2
    isplitl [W3]; · iexact W3
    isplitl [W4]; · iexact W4
    isplitl [W5]; · iexact W5
    isplitl [W6] <;> iassumption
  isplitl [Hz]; · iexact Hz
  isplitl [He Hx Ho]
  · isplitl [He]; · iexact He
    isplitl [Hx]; · iexact Hx
    iexists _
    isplitr
    · ipureintro; exact hw
    iexact Ho
  isplitl [Hg Hy]; · isplitl [Hg] <;> iassumption
  isplitl [A0 A1 A2]
  · isplitl [A0]; · iexact A0
    isplitl [A1] <;> iassumption
  isplitl [P0]; · iexact P0
  isplitl [P1]; · iexact P1
  unfold sent
  isplitl [Z2] <;> iassumption

end Cert.KernelIdealRun

end
-- ==== Proof.RunKernelIdeal.Body.lean ====
/-
The kernel's body as the pipeline's body obligation.
-/
module

public import proofs.«01_k».proof.Proof.RunKernelIdeal.Core
public import proofs.«01_k».proof.Proof.Gen.KernelIdeal.Launch
public import proofs.«01_k».proof.Proof.Gen.KernelIdeal.Points

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a device alone starts with: its waits' positions, the tokens of what it pays, its copies' semaphores at zero. -/
def linear (c : Dev nD) : sProp 𝕄 :=
  iprop((bigSep Finset.univ fun k : CK => atPos ER (kcell (c, k)) 0 ∅ 0)
    ∗ (bigSep Finset.univ fun j : Fin 3 => dutyTok ER (barCell (fwd c j)) 0 j)
    ∗ (bigSep Finset.univ fun i : Fin 3 => dutyTok ER (recvCell (fwd c i) (Fin.rev i)) 0 0)
    ∗ (bigSep Finset.univ fun i : Fin 3 => dutyTok ER (sendCell c i) 0 0)
    ∗ (bigSep Finset.univ fun j : Fin 8 => semVal ((c : Thread nD τ), .dma (wsem j)) 0))

/-- A buffer of the device, whole, at some contents. -/
abbrev anyOf (c : Dev nD) (b : Ref sig .tc) : sProp 𝕄 :=
  iprop(∃ f : Buf (Elt F) ((c : Thread nD τ).loc b), ((c : Thread nD τ).loc b) ↦{fullShare} f)

/-- The five scratch buffers. -/
abbrev scratch (c : Dev nD) : sProp 𝕄 :=
  iprop(anyOf (F := F) c cc0_scratch0 ∗ anyOf (F := F) c cc0_scratch1 ∗ anyOf (F := F) c cc0_scratch2 ∗ anyOf (F := F) c cc0_scratch3 ∗ anyOf (F := F) c cc0_scratch4)

/-- The weights' argument, as launched. -/
abbrev weights (c : Dev nD) : sProp 𝕄 := ((c : Thread nD τ).loc main_arg3) ↦{fullShare} (m ((c : Thread nD τ).loc main_arg3))

/-- What the device's body starts from besides the scratch buffers. -/
def start (c : Dev nD) : sProp 𝕄 :=
  iprop((∃ K, iprop(records m K ∗ linear c)) ∗ cred (tallyAt (barCell c) () 3) ∗ (bigSep Finset.univ fun j : Fin 3 => cred (tallyAt (recvCell c j) () N))
    ∗ levAts L lv ∗ weights m c)

/-- Before the body: what it starts from, and the scratch buffers. -/
def Φ₀ (c : Dev nD) : sProp 𝕄 := iprop(start m c ∗ scratch c)
/-- After the body: the weights unchanged, the scratch buffers, every semaphore at zero. -/
def Φ₁ (c : Dev nD) : sProp 𝕄 :=
  iprop(weights m c ∗ scratch c ∗ semVal (barCell c) 0 ∗ (bigSep Finset.univ fun j : Fin 8 => semVal ((c : Thread nD τ), .dma (wsem j)) 0)
    ∗ (bigSep Finset.univ fun i : Fin 3 => semVal (sendCell c i) 0) ∗ (bigSep Finset.univ fun i : Fin 3 => semVal (recvCell c i) 0))

/-- What the windows' buffers hold before and after the one step, and what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => eAt m c
    | ⟨2, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The seven positions one by one. -/
theorem sepCK (Φ : CK → sProp 𝕄) : bigSep Finset.univ Φ
    = iprop(Φ none ∗ Φ (some (false, 0)) ∗ Φ (some (false, 1)) ∗ Φ (some (false, 2)) ∗ Φ (some (true, 0)) ∗ Φ (some (true, 1)) ∗ Φ (some (true, 2))) :=
  bigSep_univ_eq_bigSepL [none, some (false, 0), some (false, 1), some (false, 2), some (true, 0), some (true, 1), some (true, 2)]
    (by decide) (by decide) Φ

/-- What is left aside while the body runs: the buffers' elements outside the slots. -/
def aside (c : Dev nD) : sProp 𝕄 := iprop(hRest m c ∗ wRest (F := F) c ∗ sRest (F := F) c ∗ rRest (F := F) c)

/-- What the launch gives is what the body starts with, and what is left aside. -/
theorem open_core (c : Dev nD) :
    iprop(Φ₀ m c ∗ owing c (O₀ c) ∗ stg c cc0_stg0_0 (xAt m c) ∗ stg c cc0_stg1_0 (eAt m c) ∗ anyOf (F := F) c cc0_stg2_0)
      ⊢ iprop(∃ K, iprop(corePre m K c ∗ aside m c)) := by
  unfold Φ₀ start linear
  iintro ⟨⟨⟨⟨%K, #HR, Hat, Htb, Htr, Hts, Hz⟩, Hcb, Hcr, #Hlev, Hh⟩, Hg, Hw, Hy, Hs, Hr⟩, HO, Hx, He, Ho⟩
  iexists K
  ihave Hh := (h_split m c) $$ Hh
  icases Hh with ⟨Hh, Hh'⟩
  ihave Hw := (w_split c) $$ Hw
  icases Hw with ⟨Hw, Hw'⟩
  ihave Hs := (s_split c) $$ Hs
  icases Hs with ⟨Hs, Hs'⟩
  ihave Hr := (r_split c) $$ Hr
  icases Hr with ⟨Hr, Hr'⟩
  ihave HW := (show iprop((bigSep Finset.univ fun j : Fin 8 => hPts m c j) ∗ (bigSep Finset.univ fun j : Fin 8 => iprop(∃ f, wPts c j f))
      ∗ (bigSep Finset.univ fun j : Fin 8 => semVal ((c : Thread nD τ), .dma (wsem j)) 0))
      ⊢ bigSep Finset.univ fun j : Fin 8 => idle m c j from by unfold idle; simp only [bigSep_sep']; exact BI.Entails.refl _) $$ [Hh Hw Hz]
  · isplitl [Hh]; · iexact Hh
    isplitl [Hw] <;> iassumption
  ihave HS := (show iprop((bigSep Finset.univ fun j : Fin 3 => dutyTok ER (barCell (fwd c j)) 0 j) ∗ (bigSep Finset.univ fun j : Fin 3 => iprop(∃ f, rPts (F := F) c j f)))
      ⊢ bigSep Finset.univ fun j : Fin 3 => toSignal (F := F) c j from by unfold toSignal; simp only [bigSep_sep']; exact BI.Entails.refl _) $$ [Htb Hr]
  · isplitl [Htb] <;> iassumption
  ihave Hat := (Entails.of_eq (sepCK _)) $$ Hat
  ihave Hcr := (Entails.of_eq (sep3 _)) $$ Hcr
  ihave HW := (Entails.of_eq (sep8 _)) $$ HW
  ihave HS := (Entails.of_eq (sep3 _)) $$ HS
  ihave Hs := (Entails.of_eq (sep3 _)) $$ Hs
  ihave Hts := (Entails.of_eq (sep3 _)) $$ Hts
  ihave Htr := (Entails.of_eq (sep3 _)) $$ Htr
  icases Hat with ⟨Hab, B0, B1, B2, A0, A1, A2⟩
  icases Hcr with ⟨C0, C1, C2⟩
  unfold corePre aside
  isplitr [Hh' Hw' Hs' Hr']
  · isplitr; · iexact HR
    isplitr; · iexact Hlev
    isplitl [HO]; · iexact HO
    isplitl [HW]; · iexact HW
    isplitl [HS]; · iexact HS
    isplitl [Hcb Hab]; · isplitl [Hcb] <;> iassumption
    isplitl [He Hx Ho]
    · isplitl [He]; · iexact He
      isplitl [Hx] <;> iassumption
    isplitl [Hg Hy]
    · isplitl [Hg]; · iexact Hg
      icases Hy with ⟨%f, Hy⟩
      unfold yHas
      iexists f
      isplitr
      · ipureintro
        exact fun i hi => absurd hi (Nat.not_lt_zero _)
      iexact Hy
    isplitl [Hs]; · iexact Hs
    isplitl [Hts]; · iexact Hts
    isplitl [Htr]; · iexact Htr
    isplitl [A0 A1 A2 C0 C1 C2]
    · unfold toWait
      isplitl [A0 C0]; · isplitl [C0]; · iexact C0
                         iexact A0
      isplitl [A1 C1]; · isplitl [C1]; · iexact C1
                         iexact A1
      isplitl [C2]; · iexact C2
      iexact A2
    isplitl [B0]; · iexact B0
    isplitl [B1]; · iexact B1
    iexact B2
  isplitl [Hh']; · iexact Hh'
  isplitl [Hw']; · iexact Hw'
  isplitl [Hs'] <;> iassumption

/-- A slot with its values is a slot with some. -/
theorem r_any (c : Dev nD) (j : Fin 3) (v : Vec F S1x512x1024 .bf16) : rHas c j v ⊢ iprop(∃ f, rPts c j f) := by
  unfold rHas
  iintro ⟨%f, -, H⟩
  iexists f; iexact H
/-- A weight's slot with its values is a slot with some. -/
theorem w_any (c : Dev nD) (j : Fin 8) : wHas m c j ⊢ iprop(∃ f, wPts c j f) := by
  unfold wHas
  iintro ⟨%f, -, H⟩
  iexists f; iexact H

/-- What the body ends with, and what was left aside, is what the launch takes back. -/
theorem close_core (c : Dev nD) :
    iprop(corePost m c ∗ aside m c)
      ⊢ iprop(Φ₁ m c ∗ owing c 0 ∗ stg c cc0_stg0_0 (xAt m c) ∗ stg c cc0_stg1_0 (eAt m c) ∗ stg c cc0_stg2_0 (outAt m c)) := by
  unfold corePost aside
  rw [← sep8, ← sep3, ← sep3]
  unfold landed arrived sent
  simp only [bigSep_sep']
  iintro ⟨⟨HO, ⟨Hw, Hh, Hz⟩, Hzb, ⟨He, Hx, Ho⟩, ⟨Hg, Hy⟩, ⟨Hzr, Hr⟩, Hzs, Hs⟩, Hh', Hw', Hs', Hr'⟩
  unfold Φ₁
  isplitr [HO He Hx Ho]
  · isplitl [Hh Hh']
    · iapply (h_join m c)
      isplitl [Hh] <;> iassumption
    isplitl [Hg Hy Hw Hw' Hs Hs' Hr Hr']
    · isplitl [Hg]; · iexists _; iexact Hg
      isplitl [Hw Hw']
      · iapply (w_join m c)
        isplitl [Hw]
        · iapply (show (bigSep Finset.univ fun j : Fin 8 => wHas m c j) ⊢ bigSep Finset.univ fun j : Fin 8 => iprop(∃ f, wPts c j f) from
            bigSep_mono (fun j _ => w_any m c j)); iexact Hw
        iexact Hw'
      isplitl [Hy]
      · unfold yHas
        icases Hy with ⟨%f, -, Hy⟩
        iexists f; iexact Hy
      isplitl [Hs Hs']
      · iapply (s_join m c)
        isplitl [Hs] <;> iassumption
      iapply (r_join m c)
      isplitl [Hr]
      · iapply (show (bigSep Finset.univ fun j : Fin 3 => rHas c j (recvVal m c j)) ⊢ bigSep Finset.univ fun j : Fin 3 => iprop(∃ f, rPts c j f) from
          bigSep_mono (fun j _ => r_any c j (recvVal m c j))); iexact Hr
      iexact Hr'
    isplitl [Hzb]; · iexact Hzb
    isplitl [Hz]; · iexact Hz
    isplitl [Hzs] <;> iassumption
  isplitl [HO]; · iexact HO
  isplitl [Hx]; · iexact Hx
  isplitl [He] <;> iassumption

/-- To own a whole buffer's reading is to own the buffer. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the step starts with, staged blocks included. -/
def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

/-- What the step ends with, staged blocks included. -/
def bodyPost (c : Dev nD) : sProp 𝕄 :=
  iprop(Φ₁ m c ∗ (dats m ρ 0 c).owesAt () t0_0.succ ∗ stg c cc0_stg0_0 (xAt m c) ∗ stg c cc0_stg1_0 (eAt m c) ∗ stg c cc0_stg2_0 (outAt m c))

set_option maxHeartbeats 800000 in
/-- The one step, from what it starts with to what it ends with. -/
theorem body_spec (c : Dev nD) : bodyPre m ρ c ⊢ WP c (onBufs (cc0_body (F := F))) (fun _ => bodyPost m ρ c) := by
  unfold bodyPre
  iintro ⟨HΦ, HO, ⟨%d0, %g0, %h0, Hx⟩, ⟨%d1, %g1, %h1, He⟩, ⟨%d2, %g2, %h2, Ho⟩⟩
  have hx : g0 = xAt m c := by rw [h0]; unfold Dat.before; rw [if_pos (fetch0_0 t0_0)]; rfl
  have he : g1 = eAt m c := by rw [h1]; unfold Dat.before; rw [if_pos (fetch0_1 t0_0)]; rfl
  subst hx he
  unfold Dat.owesAt Pipeline.owesWithin
  icases HO with ⟨%W, %hW, HO⟩
  rw [show (dats m ρ 0 c).owed t0_0.castSucc = O₀ c from rfl]
  ihave H := (open_core m c) $$ [HΦ HO Hx He Ho]
  · isplitl [HΦ]; · iexact HΦ
    isplitl [HO]; · unfold owing; iexists W; iexact HO
    isplitl [Hx]
    · iexists _; isplitr; · (ipureintro; rfl)
      iexact Hx
    isplitl [He]
    · iexists _; isplitr; · (ipureintro; rfl)
      iexact He
    iexists g2; iexact Ho
  icases H with ⟨%K, H, Ha⟩
  iapply (core_spec m K c) $$ [H]; · iexact H
  iintro H
  ihave H := (close_core m c) $$ [H Ha]
  · isplitl [H] <;> iassumption
  unfold bodyPost Dat.owesAt Pipeline.owesWithin owing
  rw [show (dats m ρ 0 c).owed t0_0.succ = 0 from rfl]
  icases H with ⟨HΦ, ⟨%W', HO⟩, Hx, He, Ho⟩
  isplitl [HΦ]; · iexact HΦ
  isplitl [HO]
  · iexists W'
    isplitr; · ipureintro; exact fun _ _ => Or.inl trivial
    iexact HO
  isplitl [Hx]; · iexact Hx
  isplitl [He] <;> iassumption

set_option maxRecDepth 4000 in
/-- The pipeline's body obligation. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 3) ∗ Φ (1 : Fin 3) ∗ Φ (2 : Fin 3)) from bigSep_W0,
    show ∀ Φ : Fin cfg0.W → sProp 𝕄, bigSep Finset.univ Φ = iprop(Φ (0 : Fin 3) ∗ Φ (1 : Fin 3) ∗ Φ (2 : Fin 3)) from bigSep_W0]
  simp only [owns_whole_eq]
  exact body_spec m ρ c

end Cert.KernelIdealRun

end
-- ==== Proof.RunKernelIdeal.Run.lean ====
/-
The launch: the protocol's state dealt to the devices, and the run of the whole program.
-/
module

public import proofs.«01_k».proof.Proof.RunKernelIdeal.Body
public import Idealize.ShloMosaic.Lib.Pipeline.CollectiveSegs
public import Idealize.ShloMosaic.Lib.Invariants
public import proofs.«01_k».proof.Proof.Gen.KernelIdeal.Launch
public import proofs.«01_k».proof.Proof.Gen.KernelIdeal.Points

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The fourteen semaphores scoped to the kernel: the copies', the sends', the receive slots'. -/
abbrev OK : Type := Fin 8 ⊕ (Bool × Fin 3)
/-- Their semaphores. -/
abbrev osem : OK → SemLoc sig
  | .inl j => .dma (wsem j)
  | .inr (false, i) => .dma (ssem i)
  | .inr (true, j) => .dma (rsem j)

/-- They are the scoped semaphores that no window uses, each once. -/
theorem ownSemFacts : Pipeline.OwnSemFacts cfg0.spec osem := by decide

/-- Every window's array is owned whole. -/
theorem share_eq (c : Dev nD) (w : Fin cfg0.W) : (dats m ρ 0 c).share w = fullShare := by unfold Dat.share; split <;> rfl

/-- A family over a sum of two types is the two families. -/
theorem bigSep_sum {A B : Type} [Fintype A] [Fintype B] [DecidableEq A] [DecidableEq B] (Φ : A ⊕ B → sProp 𝕄) :
    bigSep Finset.univ Φ = iprop((bigSep Finset.univ fun a => Φ (.inl a)) ∗ (bigSep Finset.univ fun b => Φ (.inr b))) := by
  rw [show (Finset.univ : Finset (A ⊕ B)) = Finset.univ.map ⟨Sum.inl, Sum.inl_injective⟩ ∪ Finset.univ.map ⟨Sum.inr, Sum.inr_injective⟩ from by
    ext x; cases x <;> simp, bigSep_union, bigSep_map, bigSep_map]
  · rfl
  · rw [Finset.disjoint_left]
    intro x h1 h2
    obtain ⟨a, -, ha⟩ := Finset.mem_map.mp h1
    obtain ⟨b, -, hb⟩ := Finset.mem_map.mp h2
    rw [← ha] at hb
    exact absurd hb (fun h => by cases h)

/-- A family over pairs of a truth value and a place is two families. -/
theorem bigSep_boolFin3 (Φ : Bool × Fin 3 → sProp 𝕄) :
    bigSep Finset.univ Φ = iprop((bigSep Finset.univ fun i => Φ (false, i)) ∗ (bigSep Finset.univ fun i => Φ (true, i))) := by
  rw [bigSep_univ_prod, bigSep_univ_eq_bigSepL [false, true] (by decide) (by decide)]
  rfl

/-- The kernel's own semaphores at zero, by kind. -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 8 => semVal ((c : Thread nD τ), .dma (wsem j)) 0)
      ∗ (bigSep Finset.univ fun i : Fin 3 => semVal (sendCell c i) 0) ∗ (bigSep Finset.univ fun i : Fin 3 => semVal (recvCell c i) 0)) := by
  unfold Pipeline.ownSems0
  rw [bigSep_sum, bigSep_boolFin3]
  rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The protocol's state at launch -/

/-- The cells of all devices. -/
def xCells : Finset (GSem nD τ sig) := Finset.univ.map ⟨kcell, kcell_injective⟩

/-- The token of each duty, listed by the device that pays it. -/
def tokOf (x : Dev nD × (Fin 3 × Fin 3)) : GSem nD τ sig × ℕ × Fin 3 :=
  match x.2.1 with
  | 0 => (barCell (fwd x.1 x.2.2), 0, x.2.2)
  | 1 => (recvCell (fwd x.1 x.2.2) (Fin.rev x.2.2), 0, 0)
  | 2 => (sendCell x.1 x.2.2, 0, 0)
/-- No token is listed twice. -/
theorem tokOf_injective : Function.Injective tokOf := by
  rintro ⟨c, k, j⟩ ⟨c', k', j'⟩ h
  have hd := congrArg (fun x : GSem nD τ sig × ℕ × Fin 3 => x.1) h
  have hj := congrArg (fun x : GSem nD τ sig × ℕ × Fin 3 => x.2.2) h
  have hoff : ∀ (d d' : Dev nD) (k k' : CK), k ≠ k' → kcell (d, k) ≠ kcell (d', k') := fun d d' k k' hk h =>
    hk (congrArg Prod.snd (kcell_injective h))
  match k, k', hd, hj with
  | 0, 0, hd, hj =>
    have hj' : j = j' := hj
    subst hj'
    have : fwd c j = fwd c' j := congrArg Prod.fst (kcell_injective hd)
    rw [← fwd_rev' c j, ← fwd_rev' c' j, this]
  | 1, 1, hd, hj =>
    have h1 : fwd c j = fwd c' j' := congrArg Prod.fst (kcell_injective hd)
    have h2 : Fin.rev j = Fin.rev j' := congrArg Prod.snd (Option.some.inj (congrArg Prod.snd (kcell_injective hd)))
    have hj' : j = j' := Fin.rev_injective h2
    subst hj'
    rw [← fwd_rev' c j, ← fwd_rev' c' j, h1]
  | 2, 2, hd, hj =>
    have h1 : c = c' := congrArg Prod.fst (kcell_injective hd)
    have h2 : j = j' := congrArg Prod.snd (Option.some.inj (congrArg Prod.snd (kcell_injective hd)))
    rw [h1, h2]
  | 0, 1, hd, hj => exact absurd hd (hoff _ _ none (some (true, Fin.rev j')) (by simp))
  | 0, 2, hd, hj => exact absurd hd (hoff _ _ none (some (false, j')) (by simp))
  | 1, 0, hd, hj => exact absurd hd (hoff _ _ (some (true, Fin.rev j)) none (by simp))
  | 1, 2, hd, hj => exact absurd hd (hoff _ _ (some (true, Fin.rev j)) (some (false, j')) (by simp))
  | 2, 0, hd, hj => exact absurd hd (hoff _ _ (some (false, j)) none (by simp))
  | 2, 1, hd, hj => exact absurd hd (hoff _ _ (some (false, j)) (some (true, Fin.rev j')) (by simp))
/-- The tokens of all devices. -/
def xToks : Finset (GSem nD τ sig × ℕ × Fin 3) := Finset.univ.map ⟨tokOf, tokOf_injective⟩

/-- The algebras' element at launch. -/
def u₀ : UU :=
  (initOf (Pipeline.cells cfgs cellOf_inj) (Pipeline.launchToks cfgs cellOf_inj), (initOf xCells xToks, 1))

/-- The tokens of the duties the device pays. -/
def payToks (c : Dev nD) : sProp 𝕄 :=
  iprop((bigSep Finset.univ fun j : Fin 3 => dutyTok ER (barCell (fwd c j)) 0 j)
    ∗ (bigSep Finset.univ fun i : Fin 3 => dutyTok ER (recvCell (fwd c i) (Fin.rev i)) 0 0)
    ∗ (bigSep Finset.univ fun i : Fin 3 => dutyTok ER (sendCell c i) 0 0))

/-- What the launch deals device `c`. -/
def G (c : Dev nD) : sProp 𝕄 :=
  iprop((bigSep Finset.univ fun k : CK => roundState ER (xRd m) (kcell (c, k)) 0)
    ∗ (bigSep Finset.univ fun k : CK => atPos ER (kcell (c, k)) 0 ∅ 0)
    ∗ (bigSep Finset.univ fun k : CK => reached ER (kcell (c, k)) 0) ∗ payToks c)

/-- What it has once the cells' invariants stand. -/
def G' (c : Dev nD) : sProp 𝕄 := iprop(∃ K, iprop(records m K ∗ linear c))

/-- A family over all cells, by device. -/
theorem xCells_sep (Φ : GSem nD τ sig → sProp 𝕄) :
    bigSep xCells Φ = bigSep Finset.univ fun c : Dev nD => bigSep Finset.univ fun k : CK => Φ (kcell (c, k)) := by
  unfold xCells; rw [bigSep_map, bigSep_univ_prod]; rfl

/-- All tokens, by the device that pays. -/
theorem xToks_sep : bigSep xToks (fun x => (dutyTok ER x.1 x.2.1 x.2.2 : sProp 𝕄)) = bigSep Finset.univ fun c : Dev nD => payToks c := by
  unfold xToks; rw [bigSep_map, bigSep_univ_prod]
  refine bigSep_congr fun c _ => ?_
  unfold payToks
  rw [bigSep_univ_prod, sep3]
  rfl

/-- The element at launch gives each device its part. -/
theorem fund_x : BI.own (ER (initOf xCells xToks)) ⊢ (|==> bigSep Finset.univ (G m) : sProp 𝕄) := by
  iintro HX
  imod (Rounds.fund ER (xRd m) xCells xToks) $$ HX with ⟨Hst, Hr, Hat, Htok⟩
  imodintro
  ihave Hst := (Entails.of_eq (xCells_sep fun g => roundState ER (xRd m) g 0)) $$ Hst
  ihave Hat := (Entails.of_eq (xCells_sep fun g => atPos ER g 0 ∅ 0)) $$ Hat
  ihave Hr := (Entails.of_eq (xCells_sep fun g => reached ER g 0)) $$ Hr
  ihave Htok := (Entails.of_eq xToks_sep) $$ Htok
  unfold G; simp only [bigSep_sep']
  isplitl [Hst]; · iexact Hst
  isplitl [Hat]; · iexact Hat
  isplitl [Hr] <;> iassumption

/-- The launch element splits into the staging pipeline's and the protocol's. -/
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- A device's semaphores at zero: its cells', and its copies'. -/
theorem sems0 (c : Dev nD) :
    iprop(Pipeline.ownSems0 (Ix := Unit) (Name := ℕ) (U := UU) (Lvl := ℕ) (Val := Elt F) (τ := τ) osem c ∗ unscopedSems0 c)
      ⊢ (iprop((bigSep Finset.univ fun k : CK => semVal (kcell (c, k)) 0)
        ∗ (bigSep Finset.univ fun j : Fin 8 => semVal ((c : Thread nD τ), .dma (wsem j)) 0)) : sProp 𝕄) := by
  rw [ownSems0_eq, unscopedSems0_eq, sepCK, sep3, sep3]
  iintro ⟨⟨Hw, ⟨S0, S1, S2⟩, R0, R1, R2⟩, HB⟩
  isplitr [Hw]
  · isplitl [HB]; · iexact HB
    isplitl [S0]; · iexact S0
    isplitl [S1]; · iexact S1
    isplitl [S2]; · iexact S2
    isplitl [R0]; · iexact R0
    isplitl [R1] <;> iassumption
  iexact Hw

/-- The cells' invariants, all allocated. -/
theorem invs : iprop((bigSep Finset.univ fun ck : Dev nD × CK => (semVal (kcell ck) 0 : sProp 𝕄)) ∗ bigSep Finset.univ fun ck : Dev nD × CK => roundState ER (xRd m) (kcell ck) 0)
    ⊢ |={Set.univ}=> iprop(∃ K : Dev nD × CK → ℕ, bigSep Finset.univ fun ck : Dev nD × CK => cellInv ER (xRd m) (K ck) (kcell ck)) := by
  have h : iprop((bigSep Finset.univ fun ck : Dev nD × CK => (semVal (kcell ck) 0 : sProp 𝕄)) ∗ bigSep Finset.univ fun ck : Dev nD × CK => roundState ER (xRd m) (kcell ck) 0)
      ⊢ bigSep Finset.univ fun ck : Dev nD × CK => Rounds.body ER (xRd m) (kcell ck) :=
    (Entails.of_eq (bigSep_sep' _ _ _).symm).trans (bigSep_mono fun ck _ => Rounds.body_intro ER (xRd m) (kcell ck))
  refine h.trans ((inv_alloc_family Finset.univ (fun ck : Dev nD × CK => Rounds.body ER (xRd m) (kcell ck)) ∅ (E := Set.univ)).trans ?_)
  iintro H
  imod H with ⟨%κ, -, Hinv⟩
  imodintro; iexists κ; iexact Hinv

/-- A fact that may be used again and again is given to each member of a family. -/
theorem deal {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants allocated, every device gets their records and keeps its own part. -/
theorem install : iprop((bigSep Finset.univ fun ck : Dev nD × CK => (semVal (kcell ck) 0 : sProp 𝕄))
      ∗ (bigSep Finset.univ fun ck : Dev nD × CK => roundState ER (xRd m) (kcell ck) 0)
      ∗ (bigSep Finset.univ fun ck : Dev nD × CK => (reached ER (kcell ck) 0 : sProp 𝕄)) ∗ bigSep Finset.univ fun c : Dev nD => linear c)
    ⊢ |={Set.univ}=> bigSep Finset.univ (G' m) := by
  iintro ⟨Hv, Hst, #Hr, Hl⟩
  imod (invs m) $$ [Hv Hst] with ⟨%K, #HI⟩
  · isplitl [Hv] <;> iassumption
  imodintro
  iapply (deal (R := records m K) (Φ := linear) fun c _ => show iprop(records m K ∗ linear c) ⊢ G' m c from by
    unfold G'
    iintro H
    iexists K; iexact H)
  isplitr
  · unfold records
    iapply (Entails.of_eq (bigSep_sep' (Finset.univ : Finset (Dev nD × CK)) (fun ck => cellInv ER (xRd m) (K ck) (kcell ck)) (fun ck => reached ER (kcell ck) 0)).symm)
    isplitr; · iexact HI
    iexact Hr
  iexact Hl

/-- From every device's semaphores and share to every device's start. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := by
  have h1 : ∀ c : Dev nD, iprop(Pipeline.ownSems0 (Ix := Unit) (Name := ℕ) (U := UU) (Lvl := ℕ) (Val := Elt F) (τ := τ) osem c ∗ unscopedSems0 c ∗ G m c)
      ⊢ iprop((bigSep Finset.univ fun k : CK => semVal (kcell (c, k)) 0) ∗ (bigSep Finset.univ fun k : CK => roundState ER (xRd m) (kcell (c, k)) 0)
        ∗ (bigSep Finset.univ fun k : CK => reached ER (kcell (c, k)) 0) ∗ linear c) := by
    intro c
    unfold G payToks linear
    iintro ⟨Ho, Hu, Hst, Hat, Hr, Hb, Hv, Hs⟩
    ihave H := (sems0 c) $$ [Ho Hu]
    · isplitl [Ho] <;> iassumption
    icases H with ⟨Hk, Hw⟩
    isplitl [Hk]; · iexact Hk
    isplitl [Hst]; · iexact Hst
    isplitl [Hr]; · iexact Hr
    isplitl [Hat]; · iexact Hat
    isplitl [Hb]; · iexact Hb
    isplitl [Hv]; · iexact Hv
    isplitl [Hs] <;> iassumption
  refine (bigSep_mono fun c _ => h1 c).trans ?_
  simp only [bigSep_sep']
  rw [← bigSep_univ_prod (fun ck : Dev nD × CK => (semVal (kcell ck) 0 : sProp 𝕄)), ← bigSep_univ_prod (fun ck : Dev nD × CK => roundState ER (xRd m) (kcell ck) 0),
    ← bigSep_univ_prod (fun ck : Dev nD × CK => (reached ER (kcell ck) 0 : sProp 𝕄))]
  exact install m

/-! ## The launch credit -/

/-- The credit devices owe one device's cell, when just one of them owes it. -/
theorem cred_one (c : Dev nD) (k : CK) (n : ℕ) (T : Dev nD → GSem nD τ sig) (d₀ : Dev nD) (h : ∀ d, T d = kcell (c, k) ↔ d = d₀) :
    (Pipeline.launchCred (fun d => tallyAt (T d) () n) c : sProp 𝕄) ⊢ cred (tallyAt (kcell (c, k)) () n) := by
  refine (Pipeline.launchCred_elim _ c (csem k)).trans (Entails.of_eq (congrArg cred ?_))
  unfold tallyAt
  refine congrArg _ (Finsupp.ext fun u => ?_)
  cases u
  rw [Pipeline.launchCredit_owing, Finsupp.single_eq_same]
  rw [Finset.sum_congr rfl fun d _ => show tallyOn (T d) (Finsupp.single () n) (kcell (c, k)) () = if d = d₀ then n else 0 from ?_]
  · rw [Finset.sum_ite_eq' Finset.univ d₀ fun _ => n, if_pos (Finset.mem_univ _)]
  · have e := tallyAt_apply (T d) () n (kcell (c, k)) ()
    refine e.trans ?_
    by_cases hd : d = d₀
    · rw [if_pos hd, if_pos ⟨((h d).mpr hd).symm, rfl⟩]
    · rw [if_neg hd, if_neg fun h' => hd ((h d).mp h'.1.symm)]

/-- The unit that signal `j` of some device owes this device's barrier. -/
theorem bar_one (c : Dev nD) (j : Fin 3) : (Pipeline.launchCred (fun d => owB d j) c : sProp 𝕄) ⊢ cred (tallyAt (barCell c) () 1) :=
  cred_one c none 1 (fun d => barCell (fwd d j)) (fwd c (Fin.rev j)) fun d =>
    ⟨fun h => by
      have h1 : fwd d j = c := congrArg Prod.fst (kcell_injective h)
      rw [← h1, fwd_rev'], fun h => by rw [h, fwd_rev]⟩

/-- The credit that send `i` of some device owes this device's receive cell. -/
theorem recv_one (c : Dev nD) (i : Fin 3) : (Pipeline.launchCred (fun d => owR d i) c : sProp 𝕄) ⊢ cred (tallyAt (recvCell c (Fin.rev i)) () N) :=
  cred_one c (some (true, Fin.rev i)) N (fun d => recvCell (fwd d i) (Fin.rev i)) (fwd c (Fin.rev i)) fun d =>
    ⟨fun h => by
      have h1 : fwd d i = c := congrArg Prod.fst (kcell_injective h)
      rw [← h1, fwd_rev'], fun h => by rw [h, fwd_rev]⟩

/-- The credits that a device's waits use: three units at the barrier, and each receive cell's. -/
theorem creds (c : Dev nD) : (Pipeline.launchCred O₀ c : sProp 𝕄)
    ⊢ iprop(cred (tallyAt (barCell c) () 3) ∗ (bigSep Finset.univ fun j : Fin 3 => cred (tallyAt (recvCell c j) () N))) := by
  rw [show (O₀ : Dev nD → CellTallies nD τ sig Unit)
      = fun d => ((((owR d 2 + owR d 1) + owR d 0) + owB d 2) + owB d 1) + owB d 0 from rfl,
    Pipeline.launchCred_add (fun d => ((((owR d 2 + owR d 1) + owR d 0) + owB d 2) + owB d 1)) (fun d => owB d 0),
    Pipeline.launchCred_add (fun d => (((owR d 2 + owR d 1) + owR d 0) + owB d 2)) (fun d => owB d 1),
    Pipeline.launchCred_add (fun d => ((owR d 2 + owR d 1) + owR d 0)) (fun d => owB d 2),
    Pipeline.launchCred_add (fun d => (owR d 2 + owR d 1)) (fun d => owR d 0),
    Pipeline.launchCred_add (fun d => owR d 2) (fun d => owR d 1), sep3]
  iintro ⟨⟨⟨⟨⟨R2, R1⟩, R0⟩, B2⟩, B1⟩, B0⟩
  isplitl [B0 B1 B2]
  · rw [show (tallyAt (barCell c) () 3 : CellTallies nD τ sig Unit) = (tallyAt (barCell c) () 1 + tallyAt (barCell c) () 1) + tallyAt (barCell c) () 1 from by
      rw [tallyAt_add, tallyAt_add]]
    iapply (cred_add _ _).2
    isplitl [B0 B1]
    · iapply (cred_add _ _).2
      isplitl [B0]
      · iapply (bar_one c 0); iexact B0
      iapply (bar_one c 1); iexact B1
    iapply (bar_one c 2); iexact B2
  isplitl [R2]; · iapply (recv_one c 2); iexact R2
  isplitl [R1]; · iapply (recv_one c 1); iexact R1
  iapply (recv_one c 0); iexact R0

/-! ## The launch theorem's side conditions -/

/-- The routing argument, as launched: the kernel never reads it. -/
abbrev logits (c : Dev nD) : sProp 𝕄 := ((c : Thread nD τ).loc main_arg1) ↦{fullShare} (m ((c : Thread nD τ).loc main_arg1))

/-- What the launch deals a device is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ logits m c) := by
  rw [Pipeline.unscopedRestP_none, unscopedRest0_eq]
  iintro ⟨⟨H1, H3⟩, Hlev, Hcr, -, HG⟩
  ihave Hc := (creds (F := F) c) $$ Hcr
  icases Hc with ⟨HB, HR⟩
  imodintro
  unfold start G'
  isplitr [H1]
  · isplitl [HG]; · iexact HG
    isplitl [HB]; · iexact HB
    isplitl [HR]; · iexact HR
    isplitl [Hlev]; · iexact Hlev
    iexact H3
  · iexact H1

/-- That and the scratch buffers are the state before the step. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs] <;> iassumption

/-- The state after the step gives back the semaphores at zero and the buffers. -/
theorem phi1_exit (c : Dev nD) :
    (dats m ρ 0 c).Φ (Fin.last cfg0.N)
      ⊢ iprop(iprop(unscopedSems0 c ∗ weights m c) ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁
  iintro ⟨Hh, Hs, Hb, Hw, Hsd, Hrv⟩
  isplitl [Hh Hb]; · isplitl [Hb] <;> iassumption
  isplitr [Hs]
  · isplitl [Hw]; · iexact Hw
    isplitl [Hsd] <;> iassumption
  iexact Hs

/-- The staging copies may be waited on. -/
theorem waits (c : Dev nD) : (levAts L lv : sProp 𝕄) ⊢ Pipeline.cellsWaits cfgs (dats m ρ) () 0 c :=
  Pipeline.cellsWaits_intro cfgs (dats m ρ) () 0 c fun w s t => by
    have hlow : lvOf (code (SemLoc.dma ((cfg0.win w).sem s) : SemLoc sig)) = 0 := by
      rw [code_none _ (fun k => ?_)]; · rfl
      rcases k with _ | ⟨b, i⟩
      · exact fun h => by cases h
      · cases b <;> fin_cases i <;> fin_cases w <;> fin_cases s <;> exact fun h => absurd (congrArg Fin.val (SemLoc.dma.inj h)) (by decide)
    rcases t with ⟨_ | _, ht⟩
    · exact mayWait_low c _ hlow (O₀ c) fun g u h => O₀_pos h
    · exact mayWait_low c _ hlow 0 fun g u h => absurd h (Nat.lt_irrefl 0)

/-- What the run ends in: the result computed, the arguments as launched, every semaphore at zero. -/
def Ends (r : PUnit × MemSt nD τ sig (Elt F)) : Prop :=
  (∀ c : Dev nD,
    r.2.mem ((c : Thread nD τ).loc main_v1) = (dats m ρ 0 c).arrAt (2 : Fin 3) cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3))
  ∧ r.2.sem = fun _ => 0

/-- The two arguments that no window stages, listed. -/
theorem args_eq (c : Dev nD) :
    (bigSep Finset.univ fun b : Bool => ((((c : Thread nD τ).loc (if b then main_arg3 else main_arg1)) ↦{fullShare} m ((c : Thread nD τ).loc (if b then main_arg3 else main_arg1)) : sProp 𝕄)))
      = iprop(logits m c ∗ weights m c) :=
  (bigSep_univ_eq_bigSepL [false, true] (by decide) (by decide) _).trans rfl

set_option maxRecDepth 8000 in
/-- On four devices, for any float values, from any memory with zero counters: the program terminates, and ends so. -/
theorem run_main : θ_run defs (onTc (τ := τ) (main (F := F))) (s₀ m ρ) (Ends m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_split _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun c => iprop(unscopedSems0 c ∗ weights m c)) (Z := fun c => logits m c)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1)
      ∧ s.mem ((c : Thread nD τ).loc main_arg3) = m ((c : Thread nD τ).loc main_arg3))
    (hY := fun c s' => by
      iintro ⟨⟨Hu, H3⟩, H1, HSI⟩
      ihave H := (pointsTo_read_all (Finset.univ : Finset Bool) (fun b => (c : Thread nD τ).loc (if b then main_arg3 else main_arg1))
        (fun b => m ((c : Thread nD τ).loc (if b then main_arg3 else main_arg1))) s') $$ [H1 H3 HSI]
      · isplitr [HSI]
        · iapply (Entails.of_eq (args_eq m c).symm)
          isplitl [H1]; · iexact H1
          iexact H3
        iexact HSI
      icases H with ⟨%hr, HSI⟩
      imod (Pipeline.unscopedSems0_read (X := unscopedSems0 c) (c := c) fupd_intro s') $$ [Hu HSI] with ⟨%hs, HSI⟩
      · isplitl [Hu] <;> iassumption
      imodintro
      isplitr
      · ipureintro
        exact ⟨hs, hr false (Finset.mem_univ _), hr true (Finset.mem_univ _)⟩
      iexact HSI)
    (hQ := fun _ h hs => ⟨fun c =>
        ⟨(h c).1 (2 : Fin 3), ((h c).1 (0 : Fin 3)).trans ((dats m ρ 0 c).arrAt_in 0 rfl _), (h c).2.2.2.1,
          ((h c).1 (1 : Fin 3)).trans ((dats m ρ 0 c).arrAt_in 1 rfl _), (h c).2.2.2.2⟩,
      sem_eq_zero hs fun c => (h c).2.2.1⟩)

end Cert.KernelIdealRun

end
-- ==== Proof.Frames.lean ====
/-
The frames: each program terminates with its arguments unchanged and every semaphore at zero.
-/
module

public import proofs.«01_k».proof.Defs
public import proofs.«01_k».proof.Proof.RunKernel.Run
public import proofs.«01_k».proof.Proof.RunKernelIdeal.Run
public import proofs.«01_k».proof.Proof.Gen.ReferenceIdeal.Run
public import Idealize.ShloMosaic.Lib.Quiescent

@[expose] public section

noncomputable section

namespace Cert.Proof

open Idealize.ShloMosaic Idealize.SL.Sem

/-- The kernel's frame: its run with the result's value dropped. -/
theorem frame_kernel : @Cert.quiescent_Kernel Cert.Kernel.Gen.facts := fun m g _ =>
  (θ_run _ _ _).mono (fun _ h => ⟨fun c => (h.1 c).2, h.2⟩) (Cert.KernelRun.run_main (F := Bits) m g)

/-- The idealized kernel's frame, the same run over the extended reals. -/
theorem frame_ideal : @Cert.quiescent_KernelIdeal Cert.KernelIdeal.Gen.facts := fun m g _ =>
  (θ_run _ _ _).mono (fun _ h => ⟨fun c => (h.1 c).2, h.2⟩) (Cert.KernelIdealRun.run_main (F := Ideal) m g)

/-- The reference's frame. It has no semaphores. -/
theorem frame_ref : @Cert.quiescent_ReferenceIdeal Cert.ReferenceIdeal.Gen.facts := fun m g _ =>
  (θ_run _ _ _).mono (fun r h => ⟨fun c => (h c).2, sem_eq_zero_of_no_sems rfl r.2⟩) (Cert.ReferenceIdeal.Value.run (F := Ideal) m g)

end Cert.Proof

end
-- ==== Proof.Value.Rank.lean ====
/-
The matrix of tokens against slots, as numbers.

A token's rank is the number of earlier tokens that ask for the same expert. Device `c` serves experts
`8 c … 8 c + 7`, 64 slots each; slot `s` is for expert `8 c + s / 64` and rank `s % 64`. The matrix has a one where
token and slot agree and the rank is under the capacity of 51, and zeros elsewhere.
-/
module

public import proofs.«01_k».proof.Proof.RunKernelIdeal.Contents
public import Idealize.ShloMosaic.PureOps.Ideal.Laws
public import Idealize.ShloMosaic.Lib.Pointwise
public import Idealize.ShloMosaic.Lib.WordCmp

@[expose] public section

set_option maxRecDepth 16384

noncomputable section

namespace Cert.Value

open Cert.KernelIdeal Cert.KernelIdeal.Gen Cert.KernelIdealRun
open Idealize.ShloMosaic

/-- How many earlier tokens ask for the same expert. -/
def rank (e : Fin 2048 → BitVec 32) (t : Fin 2048) : ℕ := (Finset.univ.filter fun u => u < t ∧ e u = e t).card

/-- A bit widened and read as a number is one or zero. -/
theorem bit_val (b : BitVec 1) : FloatOps.sitofp (F := Ideal) .f32 (BitVec.setWidth 32 b) = if b = 1#1 then (1 : EReal) else 0 := by
  show (((BitVec.setWidth 32 b).toInt : ℝ) : EReal) = _
  have h : b = 0#1 ∨ b = 1#1 := by revert b; decide
  rcases h with rfl | rfl <;> simp

/-- A word comparison for equality is the bit one exactly on equal words. -/
theorem eq_bit {x y : BitVec 32} : IntOp.cmpi .eq x y = 1#1 ↔ x = y := by
  rw [WordCmp.cmpi_eq_eq, WordCmp.ofBool_decide_eq_one_iff]

/-- A number of tokens, as a small word, read as a number. -/
theorem small_val (n : ℕ) (h : n < 2 ^ 31) : FloatOps.sitofp (F := Ideal) .f32 (BitVec.ofNat 32 n) = ((n : ℝ) : EReal) := by
  show (((BitVec.ofNat 32 n).toInt : ℝ) : EReal) = _
  rw [WordCmp.toInt_ofNat_of_lt h]; simp

/-- A sum of ones and zeros counts the ones. -/
theorem sum_bits {ι : Type} [Fintype ι] (p : ι → Prop) [DecidablePred p] :
    (∑ u, if p u then (1 : EReal) else 0) = (((Finset.univ.filter p).card : ℝ) : EReal) := by
  rw [Finset.sum_boole]; rfl

/-- The expert each token asks for, as the kernel reads it. -/
def expert (m : (ℓ : Loc nD τ sig) → Buf (Elt Ideal) ℓ) (c : Dev nD) (t : Fin 2048) : BitVec 32 := eAt m c (ix2 t (0 : Fin 1))

/-- The kernel takes the experts asked for as they are. -/
theorem pay1_apply (v : Vec Ideal S2048x1 .i32) (t : Fin 2048) : k0_pay1 v (ix2 t (0 : Fin 1)) = v (ix2 t (0 : Fin 1)) := by
  pointwise [k0_pay1]

/-- The kernel's count at a token that asks for one of the 32 experts is the token's rank. -/
theorem pay2_apply (v : Vec Ideal S2048x1 .i32) (e : Fin 2048 → BitVec 32) (he : ∀ t, v (ix2 t (0 : Fin 1)) = e t)
    (t : Fin 2048) (x : Fin 32) (hx : e t = BitVec.ofNat 32 x.val) :
    k0_pay2 v (ix2 t (0 : Fin 1)) = ((rank e t : ℝ) : EReal) := by
  pointwise [k0_pay2, k0_pay1]
  simp only [he]
  rw [Finset.sum_eq_single x]
  · rw [bit_val (IntOp.cmpi .eq (e t) _), if_pos (eq_bit.mpr hx), mul_one]
    have h : ∀ u : Fin 2048, FloatOps.sitofp (F := Ideal) .f32 (BitVec.setWidth 32 (IntOp.cmpi .sgt (BitVec.ofNat 32 t.val) (BitVec.ofNat 32 u.val)))
        * FloatOps.sitofp (F := Ideal) .f32 (BitVec.setWidth 32 (IntOp.cmpi .eq (e u) (BitVec.ofNat 32 x.val)))
        = if u < t ∧ e u = e t then (1 : EReal) else 0 := by
      intro u
      have h1 : IntOp.cmpi .sgt (BitVec.ofNat 32 t.val) (BitVec.ofNat 32 u.val) = 1#1 ↔ u < t := by
        rw [WordCmp.cmpi_sgt_ofNat_eq_one_iff (by have := t.isLt; omega) (by have := u.isLt; omega)]
        exact Iff.rfl
      rw [bit_val, bit_val, ← hx]
      simp only [h1, eq_bit]
      by_cases ha : u < t <;> by_cases hb : e u = e t <;> simp [ha, hb]
    simp only [h]
    exact sum_bits _
  · intro y _ hy
    rw [bit_val (IntOp.cmpi .eq (e t) _), if_neg, mul_zero]
    rw [eq_bit, hx]
    intro h
    have := (WordCmp.ofNat_eq_ofNat_iff (by have := x.isLt; omega) (by have := y.isLt; omega)).mp h
    exact hy (Fin.ext this.symm)
  · intro h; exact absurd (Finset.mem_univ _) h

/-- The capacity. -/
theorem capacity_val : Ideal.ofBits .f32 1112276992#32 = ((51 : ℝ) : EReal) := by
  simp [Ideal.ofBits, Ideal.ieee, -EReal.coe_mul]; norm_num

/-- The expert of each slot, as the kernel computes it. -/
theorem slot_expert : ∀ (c : Fin 4) (s : Fin 512), IntOp.addi (firstOf c) (Scalar.select (IntOp.andi (IntOp.cmpi .ne (IntOp.subi
      (BitVec.setWidth 32 (IntOp.cmpi .sgt (BitVec.ofNat 32 s.val) 0#32)) (BitVec.setWidth 32 (IntOp.cmpi .slt (BitVec.ofNat 32 s.val) 0#32))) sgn64)
      (IntOp.cmpi .ne (IntOp.remsi .vector (BitVec.ofNat 32 s.val) 64#32) 0#32)) (IntOp.subi (IntOp.divsi .vector (BitVec.ofNat 32 s.val) 64#32) 1#32)
      (IntOp.divsi .vector (BitVec.ofNat 32 s.val) 64#32)) = BitVec.ofNat 32 (8 * c.val + s.val / 64) := by
  decide +kernel

/-- The rank of each slot, as the kernel computes it. -/
theorem slot_rank : ∀ s : Fin 512, Scalar.select (IntOp.andi (IntOp.xori (IntOp.cmpi .slt (IntOp.remsi .vector (BitVec.ofNat 32 s.val) (Scalar.select (Scalar.cmpi .eq 64#32 0#32) 1#32 64#32)) 0#32)
      (Scalar.cmpi .slt (Scalar.select (Scalar.cmpi .eq 64#32 0#32) 1#32 64#32) 0#32)) (IntOp.cmpi .ne (IntOp.remsi .vector (BitVec.ofNat 32 s.val) (Scalar.select (Scalar.cmpi .eq 64#32 0#32) 1#32 64#32)) 0#32))
      (IntOp.addi (IntOp.remsi .vector (BitVec.ofNat 32 s.val) (Scalar.select (Scalar.cmpi .eq 64#32 0#32) 1#32 64#32)) (Scalar.select (Scalar.cmpi .eq 64#32 0#32) 1#32 64#32)) (IntOp.remsi .vector (BitVec.ofNat 32 s.val) (Scalar.select (Scalar.cmpi .eq 64#32 0#32) 1#32 64#32)) = BitVec.ofNat 32 (s.val % 64) := by
  decide +kernel

/-- The matrix entry by entry. -/
theorem gv_apply (m : (ℓ : Loc nD τ sig) → Buf (Elt Ideal) ℓ) (c : Dev nD) (t : Fin 2048) (s : Fin 512) :
    gv m c (ix2 t s) = if expert m c t = BitVec.ofNat 32 (8 * c.val + s.val / 64) ∧ rank (expert m c) t = s.val % 64
      ∧ rank (expert m c) t < 51 then 1 else 0 := by
  unfold gv
  have hE : k0_pay1 (eAt m c) (ix2 t (0 : Fin 1)) = expert m c t := pay1_apply _ _
  generalize k0_pay1 (eAt m c) = E at hE
  generalize hR : k0_pay2 (eAt m c) = R
  pointwise [k0_pay5, k0_pay3, k0_pay4]
  rw [hE]
  rw [slot_expert, slot_rank, bit_val, capacity_val, small_val _ (by omega)]
  have hbits : IntOp.andi (IntOp.andi (IntOp.cmpi .eq (expert m c t) (BitVec.ofNat 32 (8 * c.val + s.val / 64)))
      (BitVec.ofBool (decide (R (ix2 t (0 : Fin 1)) = (((s.val % 64 : ℕ) : ℝ) : EReal)))))
      (BitVec.ofBool (decide (R (ix2 t (0 : Fin 1)) < ((51 : ℝ) : EReal)))) = 1#1 ↔
      expert m c t = BitVec.ofNat 32 (8 * c.val + s.val / 64) ∧ rank (expert m c) t = s.val % 64 ∧ rank (expert m c) t < 51 := by
    rw [WordCmp.cmpi_eq_eq, WordCmp.andi_ofBool, WordCmp.andi_ofBool, WordCmp.ofBool_eq_one_iff, Bool.and_eq_true, Bool.and_eq_true,
      decide_eq_true_iff, decide_eq_true_iff, decide_eq_true_iff, and_assoc]
    refine and_congr_right fun hx => ?_
    have hR' : R (ix2 t (0 : Fin 1)) = ((rank (expert m c) t : ℝ) : EReal) := by
      rw [← hR]
      exact pay2_apply _ (expert m c) (fun _ => rfl) t
        ⟨8 * c.val + s.val / 64, by have h1 : c.val < 4 := c.isLt; have h2 := s.isLt; omega⟩ hx
    rw [hR', EReal.coe_eq_coe_iff, EReal.coe_lt_coe_iff]
    exact and_congr Nat.cast_inj (by exact_mod_cast Iff.rfl)
  by_cases h : expert m c t = BitVec.ofNat 32 (8 * c.val + s.val / 64) ∧ rank (expert m c) t = s.val % 64 ∧ rank (expert m c) t < 51
  · rw [if_pos h, if_pos (hbits.mpr h)]
  · rw [if_neg h, if_neg (fun q => h (hbits.mp q))]

end Cert.Value

end
-- ==== Proof.Value.Staged.lean ====
/-
What the kernel's buffers hold, entry by entry, of the arrays the program was given.
-/
module

public import proofs.«01_k».proof.Proof.Value.Rank
public import proofs.«01_k».proof.Proof.RunKernelIdeal.Run
public import Idealize.ShloMosaic.Lib.Pipeline.ValueKit

@[expose] public section

set_option maxRecDepth 16384

noncomputable section

namespace Cert.Value

open Cert.KernelIdeal Cert.KernelIdeal.Gen Cert.KernelIdealRun
open Idealize.ShloMosaic
open Idealize.ShloMosaic.TcCoe

variable (m : (ℓ : Loc nD τ sig) → Buf (Elt Ideal) ℓ) (ρ : Dev nD → PrngReg) (c : Dev nD)

/-- The tokens are staged as given. -/
theorem xAt_eq : xAt m c = m ((c : Thread nD τ).loc main_arg0) := by
  funext j
  unfold xAt
  blk_simp
  refine congrArg (m ((c : Thread nD τ).loc main_arg0)) (funext fun a => Fin.ext ?_)
  blk_simp
  exact (congrArg (· + _) (Nat.zero_mul _)).trans (Nat.zero_add _)

/-- The experts asked for are staged as given. -/
theorem eAt_eq : eAt m c = m ((c : Thread nD τ).loc main_arg2) := by
  funext j
  unfold eAt
  blk_simp
  refine congrArg (m ((c : Thread nD τ).loc main_arg2)) (funext fun a => Fin.ext ?_)
  blk_simp
  exact (congrArg (· + _) (Nat.zero_mul _)).trans (Nat.zero_add _)

/-- Weight `j` of a device is row `j` of the block it holds. -/
theorem wAt_apply (j : Fin 8) (d : Fin 512) (h : Fin 1024) :
    wAt m c j (ix3 (0 : Fin 1) d h) = m ((c : Thread nD τ).loc main_arg3) (ix3 j d h) := by
  unfold wAt
  refine congrArg (m ((c : Thread nD τ).loc main_arg3)) (funext fun a => Fin.ext ?_)
  match a with
  | 0 => show j.val + 1 * 0 = j.val; omega
  | 1 => show 0 + 1 * d.val = d.val; omega
  | 2 => show 0 + 1 * h.val = h.val; omega

/-- The result array ends holding what the body left in its buffer. -/
theorem arrAt_out : (dats m ρ 0 c).arrAt (2 : Fin 3) cfg0.N = outAt m c := by
  refine (dats m ρ 0 c).arrAt_eq_of_after_last (2 : Fin 3) t0_0 (by decide +kernel) _ fun j => ?_
  blk_simp
  rfl

end Cert.Value

end
-- ==== Proof.Value.Rows.lean ====
/-
What the slots hold: their tokens, and their tokens by the experts' weights.
-/
module

public import proofs.«01_k».proof.Proof.Value.Rank

@[expose] public section

set_option maxRecDepth 16384

noncomputable section

namespace Cert.Value

open Cert.KernelIdeal Cert.KernelIdeal.Gen Cert.KernelIdealRun
open Idealize.ShloMosaic

variable (m : (ℓ : Loc nD τ sig) → Buf (Elt Ideal) ℓ) (c : Dev nD)

/-- Gathering: a slot's token is the sum of the tokens the matrix's column picks. -/
theorem pay7_apply (g : FVec Ideal S2048x512 .bf16) (x : Vec Ideal S2048x512 .f32) (s d : Fin 512) :
    k0_pay7 g x (ix2 s d) = ∑ t : Fin 2048, g (ix2 t s) * x (ix2 t d) := by
  pointwise [k0_pay7]

/-- Expert 0's rows. -/
theorem rows0 (r : Fin 64) (h : Fin 1024) : yPay m c 0 (ix2 r h)
    = ∑ d : Fin 512, xg m c (ix2 (⟨0 + r.val, by omega⟩ : Fin 512) d) * wAt m c 0 (ix3 (0 : Fin 1) d h) := by
  unfold yPay
  generalize wAt m c 0 = w
  unfold xg k0_pay8
  generalize k0_pay7 (gv m c) (xAt m c) = X
  pointwise []

/-- Expert 1's rows. -/
theorem rows1 (r : Fin 64) (h : Fin 1024) : yPay m c 1 (ix2 r h)
    = ∑ d : Fin 512, xg m c (ix2 (⟨64 + r.val, by omega⟩ : Fin 512) d) * wAt m c 1 (ix3 (0 : Fin 1) d h) := by
  unfold yPay
  generalize wAt m c 1 = w
  unfold xg k0_pay10 k0_pay9
  generalize k0_pay7 (gv m c) (xAt m c) = X
  pointwise []

/-- Expert 2's rows. -/
theorem rows2 (r : Fin 64) (h : Fin 1024) : yPay m c 2 (ix2 r h)
    = ∑ d : Fin 512, xg m c (ix2 (⟨128 + r.val, by omega⟩ : Fin 512) d) * wAt m c 2 (ix3 (0 : Fin 1) d h) := by
  unfold yPay
  generalize wAt m c 2 = w
  generalize xg m c = X
  pointwise [k0_pay11]

/-- Expert 3's rows. -/
theorem rows3 (r : Fin 64) (h : Fin 1024) : yPay m c 3 (ix2 r h)
    = ∑ d : Fin 512, xg m c (ix2 (⟨192 + r.val, by omega⟩ : Fin 512) d) * wAt m c 3 (ix3 (0 : Fin 1) d h) := by
  unfold yPay
  generalize wAt m c 3 = w
  generalize xg m c = X
  pointwise [k0_pay13, k0_pay12]

/-- Expert 4's rows. -/
theorem rows4 (r : Fin 64) (h : Fin 1024) : yPay m c 4 (ix2 r h)
    = ∑ d : Fin 512, xg m c (ix2 (⟨256 + r.val, by omega⟩ : Fin 512) d) * wAt m c 4 (ix3 (0 : Fin 1) d h) := by
  unfold yPay
  generalize wAt m c 4 = w
  generalize xg m c = X
  pointwise [k0_pay14]

/-- Expert 5's rows. -/
theorem rows5 (r : Fin 64) (h : Fin 1024) : yPay m c 5 (ix2 r h)
    = ∑ d : Fin 512, xg m c (ix2 (⟨320 + r.val, by omega⟩ : Fin 512) d) * wAt m c 5 (ix3 (0 : Fin 1) d h) := by
  unfold yPay
  generalize wAt m c 5 = w
  generalize xg m c = X
  pointwise [k0_pay16, k0_pay15]

/-- Expert 6's rows. -/
theorem rows6 (r : Fin 64) (h : Fin 1024) : yPay m c 6 (ix2 r h)
    = ∑ d : Fin 512, xg m c (ix2 (⟨384 + r.val, by omega⟩ : Fin 512) d) * wAt m c 6 (ix3 (0 : Fin 1) d h) := by
  unfold yPay
  generalize wAt m c 6 = w
  generalize xg m c = X
  pointwise [k0_pay17]

/-- Expert 7's rows. -/
theorem rows7 (r : Fin 64) (h : Fin 1024) : yPay m c 7 (ix2 r h)
    = ∑ d : Fin 512, xg m c (ix2 (⟨448 + r.val, by omega⟩ : Fin 512) d) * wAt m c 7 (ix3 (0 : Fin 1) d h) := by
  unfold yPay
  generalize wAt m c 7 = w
  generalize xg m c = X
  pointwise [k0_pay19, k0_pay18]

/-- Every expert's rows. -/
theorem yPay_apply (j : Fin 8) (r : Fin 64) (h : Fin 1024) : yPay m c j (ix2 r h)
    = ∑ d : Fin 512, xg m c (ix2 (⟨64 * j.val + r.val, by have := j.isLt; have := r.isLt; omega⟩ : Fin 512) d)
        * wAt m c j (ix3 (0 : Fin 1) d h) :=
  match j with
  | 0 => rows0 m c r h
  | 1 => rows1 m c r h
  | 2 => rows2 m c r h
  | 3 => rows3 m c r h
  | 4 => rows4 m c r h
  | 5 => rows5 m c r h
  | 6 => rows6 m c r h
  | 7 => rows7 m c r h

/-- Every slot's row. -/
theorem yAt_apply (s : Fin 512) (h : Fin 1024) : yAt m c (ix2 s h)
    = ∑ d : Fin 512, xg m c (ix2 s d) * wAt m c ⟨s.val / 64, by have := s.isLt; omega⟩ (ix3 (0 : Fin 1) d h) := by
  refine (yPay_apply m c ⟨s.val / 64, by have := s.isLt; omega⟩ ⟨s.val % 64, Nat.mod_lt _ (by decide)⟩ h).trans ?_
  refine Finset.sum_congr rfl fun d _ => ?_
  have : (⟨64 * (s.val / 64) + s.val % 64, by have := s.isLt; omega⟩ : Fin 512) = s := Fin.ext (by show 64 * (s.val / 64) + s.val % 64 = s.val; omega)
  rw [this]

/-- The last step: the device's own chunk and the three that arrived, added up. -/
theorem out_pay (g : Vec Ideal S512x512 .bf16) (y : Vec Ideal S512x1024 .bf16) (a b d : Vec Ideal S1x512x1024 .bf16) (r : Fin 512) (h : Fin 1024) :
    k0_pay24 (k0_pay23 g y a b) d (ix2 r h)
      = (∑ s : Fin 512, g (ix2 r s) * y (ix2 s h)) + a (ix3 (0 : Fin 1) r h) + b (ix3 (0 : Fin 1) r h) + d (ix3 (0 : Fin 1) r h) := by
  pointwise [k0_pay23, k0_pay24]

/-- What a send carries: the matrix's rows for that chunk by the slots' rows. -/
theorem send_apply (i : Fin 3) (r : Fin 512) (h : Fin 1024) :
    sendVal m c i (ix3 (0 : Fin 1) r h) = ∑ s : Fin 512, gChunk m c i (ix2 r s) * yAt m c (ix2 s h) := by
  match i with
  | 0 => unfold sendVal; generalize gChunk m c 0 = g; generalize yAt m c = y; pointwise [k0_pay20]
  | 1 => unfold sendVal; generalize gChunk m c 1 = g; generalize yAt m c = y; pointwise [k0_pay21]
  | 2 => unfold sendVal; generalize gChunk m c 2 = g; generalize yAt m c = y; pointwise [k0_pay22]

/-- The matrix is stored as computed. -/
theorem gAt_apply (t : Fin 2048) (s : Fin 512) : gAt m c (ix2 t s) = gv m c (ix2 t s) := by
  have hg : gAt m c = shapeCast S2048x512 (gv m c) shapeCasts_S2048x512_S2048x512 := rfl
  rw [hg]
  generalize gv m c = g
  pointwise []

/-- Where send `i`'s rows start. -/
theorem chunk_start : ∀ (c : Fin 4) (i : Fin 3), k0_off1 c (BitVec.ofNat 32 (1 + i.val)) = ![512 * ((c.val + (i.val + 1)) % 4), 0] := by
  decide +kernel

/-- The rows of the matrix a send uses. -/
theorem gChunk_apply (i : Fin 3) (r s : Fin 512) :
    gChunk m c i (ix2 r s) = gv m c (ix2 (⟨512 * ((c.val + (i.val + 1)) % 4) + r.val, by have := r.isLt; omega⟩ : Fin 2048) s) := by
  rw [← gAt_apply]
  unfold gChunk
  refine congrArg (gAt m c) (funext fun a => Fin.ext ?_)
  match a with
  | 0 =>
    show k0_off1 c (BitVec.ofNat 32 (1 + i.val)) 0 + 1 * r.val = 512 * ((c.val + (i.val + 1)) % 4) + r.val
    rw [chunk_start c i]; show 512 * ((c.val + (i.val + 1)) % 4) + 1 * r.val = _; omega
  | 1 =>
    show k0_off1 c (BitVec.ofNat 32 (1 + i.val)) 1 + 1 * s.val = s.val
    rw [chunk_start c i]; show 0 + 1 * s.val = _; omega

/-- The rows of the matrix the device keeps. -/
theorem gOwn_apply (r s : Fin 512) :
    gOwn m c (ix2 r s) = gv m c (ix2 (⟨512 * c.val + r.val, by have : c.val < 4 := c.isLt; have := r.isLt; omega⟩ : Fin 2048) s) := by
  rw [← gAt_apply]
  unfold gOwn
  refine congrArg (gAt m c) (funext fun a => Fin.ext ?_)
  match a with
  | 0 =>
    show k0_off2 c 0 + 1 * r.val = 512 * c.val + r.val
    rw [k0_off2_eq c]; show 512 * c.val + 1 * r.val = _; omega
  | 1 =>
    show k0_off2 c 1 + 1 * s.val = s.val
    rw [k0_off2_eq c]; show 0 + 1 * s.val = _; omega

end Cert.Value

end
-- ==== Proof.Value.Equation.lean ====
/-
The equation, over plain numbers: gathering each device's tokens into slots, multiplying, and scattering back gives
every token that fits its own row by its own expert's weight, from exactly one device, and every other token zero.
-/
module

public import proofs.«01_k».proof.Proof.Value.Rank

@[expose] public section

noncomputable section

namespace Cert.Value

/-- Slot `s` of device `c` is token `t`'s. -/
def At (e : Fin 2048 → BitVec 32) (c : Fin 4) (t : Fin 2048) (s : Fin 512) : Prop :=
  e t = BitVec.ofNat 32 (8 * c.val + s.val / 64) ∧ rank e t = s.val % 64 ∧ rank e t < 51

/-- Whether a slot is a token's can be decided. -/
instance (e : Fin 2048 → BitVec 32) (c : Fin 4) (t : Fin 2048) (s : Fin 512) : Decidable (At e c t s) := by
  unfold At; infer_instance

/-- One where the slot is the token's. -/
def pick (e : Fin 2048 → BitVec 32) (c : Fin 4) (t : Fin 2048) (s : Fin 512) : EReal := if At e c t s then 1 else 0

/-- A later token of the same expert has a larger rank. -/
theorem rank_lt (e : Fin 2048 → BitVec 32) {u t : Fin 2048} (hlt : u < t) (he : e u = e t) : rank e u < rank e t := by
  unfold rank
  refine Finset.card_lt_card (Finset.ssubset_iff_of_subset ?_ |>.mpr ⟨u, ?_, ?_⟩)
  · intro v hv
    simp only [Finset.mem_filter, Finset.mem_univ, true_and] at hv ⊢
    exact ⟨hv.1.trans hlt, hv.2.trans he⟩
  · simp only [Finset.mem_filter, Finset.mem_univ, true_and]; exact ⟨hlt, he⟩
  · simp

/-- Tokens of one expert with one rank are one token. -/
theorem rank_inj (e : Fin 2048 → BitVec 32) {u t : Fin 2048} (he : e u = e t) (hr : rank e u = rank e t) : u = t := by
  rcases lt_trichotomy u t with h | h | h
  · have := rank_lt e h he; omega
  · exact h
  · have := rank_lt e h he.symm; omega

/-- A slot holds at most one token. -/
theorem At.token {e : Fin 2048 → BitVec 32} {c : Fin 4} {t : Fin 2048} {s : Fin 512} (h : At e c t s) (u : Fin 2048) :
    At e c u s ↔ u = t := by
  constructor
  · intro h'
    exact rank_inj e (h'.1.trans h.1.symm) (h'.2.1.trans h.2.1.symm)
  · rintro rfl; exact h

/-- The device that serves a token, and the slot there. -/
theorem at_iff (e : Fin 2048 → BitVec 32) (c : Fin 4) (t : Fin 2048) (s : Fin 512) :
    At e c t s ↔ (e t).toNat < 32 ∧ rank e t < 51 ∧ (e t).toNat / 8 = c.val ∧ s.val = 64 * ((e t).toNat % 8) + rank e t := by
  have hs := s.isLt
  have hc := c.isLt
  unfold At
  constructor
  · rintro ⟨h1, h2, h3⟩
    have h : (e t).toNat = 8 * c.val + s.val / 64 := by
      rw [h1]; exact Idealize.ShloMosaic.WordCmp.toNat_ofNat_of_lt (by omega)
    omega
  · rintro ⟨h1, h2, h3, h4⟩
    refine ⟨?_, by omega, h2⟩
    rw [← BitVec.toNat_inj, Idealize.ShloMosaic.WordCmp.toNat_ofNat_of_lt (by omega)]
    omega

variable (e : Fin 2048 → BitVec 32) (X : Fin 2048 → Fin 512 → EReal) (W : Fin 32 → Fin 512 → Fin 1024 → EReal)

/-- The expert a slot of a device is for. -/
def slotExpert (c : Fin 4) (s : Fin 512) : Fin 32 := ⟨8 * c.val + s.val / 64, by have := c.isLt; have := s.isLt; omega⟩

/-- The token in a slot. -/
def gathered (c : Fin 4) (s d : Fin 512) : EReal := ∑ t, pick e c t s * X t d

/-- The slot's token by its expert's weight. -/
def served (c : Fin 4) (s : Fin 512) (h : Fin 1024) : EReal := ∑ d, gathered e X c s d * W (slotExpert c s) d h

/-- What device `c` contributes to token `t`. -/
def part (c : Fin 4) (t : Fin 2048) (h : Fin 1024) : EReal := ∑ s, pick e c t s * served e X W c s h

/-- What the layer gives token `t`. -/
def layer (t : Fin 2048) (h : Fin 1024) : EReal :=
  if he : (e t).toNat < 32 then if rank e t < 51 then ∑ d, X t d * W ⟨(e t).toNat, he⟩ d h else 0 else 0

/-- A token's slot gathers that token's row. -/
theorem gathered_eq {c : Fin 4} {t : Fin 2048} {s : Fin 512} (h : At e c t s) (d : Fin 512) : gathered e X c s d = X t d := by
  unfold gathered pick
  rw [Finset.sum_eq_single t]
  · rw [if_pos h, one_mul]
  · intro u _ hu; rw [if_neg (fun q => hu ((h.token u).mp q)), zero_mul]
  · intro q; exact absurd (Finset.mem_univ _) q

/-- A device contributes the layer's value to the tokens it serves and nothing to the others. -/
theorem part_eq (c : Fin 4) (t : Fin 2048) (h : Fin 1024) :
    part e X W c t h = if (e t).toNat / 8 = c.val then layer e X W t h else 0 := by
  have hc := c.isLt
  by_cases hf : (e t).toNat < 32 ∧ rank e t < 51 ∧ (e t).toNat / 8 = c.val
  · obtain ⟨h1, h2, h3⟩ := hf
    have hat : At e c t ⟨64 * ((e t).toNat % 8) + rank e t, by omega⟩ := (at_iff e c t _).mpr ⟨h1, h2, h3, rfl⟩
    unfold part pick
    rw [Finset.sum_eq_single (⟨64 * ((e t).toNat % 8) + rank e t, by omega⟩ : Fin 512)]
    · rw [if_pos hat, one_mul, if_pos h3]
      unfold served layer
      rw [dif_pos h1, if_pos h2]
      refine Finset.sum_congr rfl fun d _ => ?_
      rw [gathered_eq e X hat d]
      have : slotExpert c ⟨64 * ((e t).toNat % 8) + rank e t, by omega⟩ = ⟨(e t).toNat, h1⟩ := by
        apply Fin.ext; show 8 * c.val + (64 * ((e t).toNat % 8) + rank e t) / 64 = (e t).toNat; omega
      rw [this]
    · intro s _ hs
      rw [if_neg, zero_mul]
      intro q
      exact hs (Fin.ext ((at_iff e c t s).mp q).2.2.2)
    · intro q; exact absurd (Finset.mem_univ _) q
  · have hz : part e X W c t h = 0 := by
      unfold part pick
      refine Finset.sum_eq_zero fun s _ => ?_
      rw [if_neg, zero_mul]
      intro q
      have := (at_iff e c t s).mp q
      exact hf ⟨this.1, this.2.1, this.2.2.1⟩
    rw [hz]
    by_cases h3 : (e t).toNat / 8 = c.val
    · rw [if_pos h3]
      unfold layer
      by_cases h1 : (e t).toNat < 32
      · rw [dif_pos h1, if_neg (fun h2 => hf ⟨h1, h2, h3⟩)]
      · rw [dif_neg h1]
    · rw [if_neg h3]

/-- The four contributions, taken in a device's order, add up to the layer's value. -/
theorem parts_sum (c : Fin 4) (t : Fin 2048) (h : Fin 1024) (a : Fin 3 → Fin 4) (ha : ∀ j, (a j).val = (c.val + (j.val + 1)) % 4) :
    part e X W c t h + part e X W (a 2) t h + part e X W (a 1) t h + part e X W (a 0) t h = layer e X W t h := by
  simp only [part_eq, ha]
  have hl : ¬ (e t).toNat < 32 → layer e X W t h = 0 := fun q => by unfold layer; rw [dif_neg q]
  have hc := c.isLt
  by_cases h1 : (e t).toNat < 32
  · have h4 : (e t).toNat / 8 < 4 := by omega
    generalize (e t).toNat / 8 = q at h4
    generalize layer e X W t h = L
    obtain ⟨c, _⟩ := c
    have hq : q = 0 ∨ q = 1 ∨ q = 2 ∨ q = 3 := by omega
    have hc' : c = 0 ∨ c = 1 ∨ c = 2 ∨ c = 3 := by omega
    rcases hq with rfl | rfl | rfl | rfl <;> rcases hc' with rfl | rfl | rfl | rfl <;> simp
  · rw [hl h1]; simp

end Cert.Value

end
-- ==== Proof.Value.Out.lean ====
/-
The kernel's result on a device is the layer's rows of the tokens of that device's chunk.
-/
module

public import proofs.«01_k».proof.Proof.Value.Rows
public import proofs.«01_k».proof.Proof.Value.Equation

@[expose] public section

set_option maxRecDepth 16384

noncomputable section

namespace Cert.Value

open Cert.KernelIdeal Cert.KernelIdeal.Gen Cert.KernelIdealRun
open Idealize.ShloMosaic

/-- A device's local expert is one of the 32. -/
theorem global_lt (c : Fin 4) (j : Fin 8) : 8 * c.val + j.val < 32 := by
  have := c.isLt
  have := j.isLt
  omega

variable (m : (ℓ : Loc nD τ sig) → Buf (Elt Ideal) ℓ)
  (e : Fin 2048 → BitVec 32) (X : Fin 2048 → Fin 512 → EReal) (W : Fin 32 → Fin 512 → Fin 1024 → EReal)
  (he : ∀ c t, expert m c t = e t)
  (hX : ∀ c (t : Fin 2048) (d : Fin 512), xAt m c (ix2 t d) = X t d)
  (hW : ∀ (c : Fin 4) (j : Fin 8) (d : Fin 512) (h : Fin 1024),
    wAt m c j (ix3 (0 : Fin 1) d h) = W ⟨8 * c.val + j.val, global_lt c j⟩ d h)

include he in
/-- The matrix in the layer's terms. -/
theorem gv_pick (c : Dev nD) (t : Fin 2048) (s : Fin 512) : gv m c (ix2 t s) = pick e c t s := by
  have hf : expert m c = e := funext (he c)
  rw [gv_apply, hf]
  unfold pick
  by_cases h : At e c t s
  · rw [if_pos h]; exact if_pos h
  · rw [if_neg h]; exact if_neg h

include he hX in
/-- The slots' tokens in the layer's terms. -/
theorem xg_gathered (c : Dev nD) (s d : Fin 512) : xg m c (ix2 s d) = gathered e X c s d := by
  unfold xg gathered
  rw [pay7_apply]
  exact Finset.sum_congr rfl fun t _ => by rw [gv_pick m e he, hX]

include he hX hW in
/-- The slots' rows in the layer's terms. -/
theorem yAt_served (c : Dev nD) (s : Fin 512) (h : Fin 1024) : yAt m c (ix2 s h) = served e X W c s h := by
  rw [yAt_apply]
  unfold served
  exact Finset.sum_congr rfl fun d _ => by rw [xg_gathered m e X he hX, hW]; rfl

include he hX hW in
/-- A send carries the sender's contribution to the receiver's chunk. -/
theorem send_part (c : Dev nD) (i : Fin 3) (r : Fin 512) (h : Fin 1024) (t : Fin 2048)
    (ht : t.val = 512 * ((c.val + (i.val + 1)) % 4) + r.val) : sendVal m c i (ix3 (0 : Fin 1) r h) = part e X W c t h := by
  rw [send_apply]
  unfold part
  refine Finset.sum_congr rfl fun s _ => ?_
  rw [gChunk_apply, gv_pick m e he, yAt_served m e X W he hX hW]
  exact congrArg (fun u => pick e c u s * served e X W c s h) (Fin.ext ht.symm)

include he hX hW in
/-- What arrives in receive slot `j` is the contribution of the device `j + 1` further on. -/
theorem recv_part (c : Dev nD) (j : Fin 3) (r : Fin 512) (h : Fin 1024) (t : Fin 2048) (ht : t.val = 512 * c.val + r.val) :
    recvVal m c j (ix3 (0 : Fin 1) r h) = part e X W (fwd c j) t h := by
  unfold recvVal
  refine send_part m e X W he hX hW (fwd c j) (Fin.rev j) r h t ?_
  rw [ht]
  have h1 : c.val < 4 := c.isLt
  have h2 := j.isLt
  have h3 : (Fin.rev j).val = 3 - (j.val + 1) := rfl
  have h4 : (fwd c j).val = (c.val + (j.val + 1)) % 4 := rfl
  rw [h3, h4]
  omega

include he hX hW in
/-- The result on a device. -/
theorem out_apply (c : Dev nD) (r : Fin 512) (h : Fin 1024) (t : Fin 2048) (ht : t.val = 512 * c.val + r.val) :
    outAt m c (ix2 r h) = layer e X W t h := by
  unfold outAt
  rw [out_pay, recv_part m e X W he hX hW c 2 r h t ht, recv_part m e X W he hX hW c 1 r h t ht,
    recv_part m e X W he hX hW c 0 r h t ht, ← parts_sum e X W c t h (fwd c) (fun _ => rfl)]
  congr 3
  unfold part
  refine Finset.sum_congr rfl fun s _ => ?_
  rw [gOwn_apply, gv_pick m e he, yAt_served m e X W he hX hW]
  exact congrArg (fun u => pick e c u s * served e X W c s h) (Fin.ext ht.symm)

end Cert.Value

end
-- ==== Proof.Value.Reference.lean ====
/-
What the reference computes, entry by entry.
-/
module

public import proofs.«01_k».proof.Proof.Value.Equation
public import proofs.«01_k».proof.Proof.Gen.ReferenceIdeal.Run
public import Idealize.ShloMosaic.Lib.IndicatorCount
public import Idealize.ShloMosaic.Lib.ValueIdxCore

@[expose] public section

set_option maxRecDepth 16384

noncomputable section

namespace Cert.Value

open Cert.ReferenceIdeal Cert.ReferenceIdeal.Gen
open Idealize.ShloMosaic

/-- The experts asked for, as a row. -/
def refExperts (ids : IVec S2048x1 32) : IVec S2048 32 := shapeCast _ ids shapeCasts_S2048x1_S2048

/-- Each token's rank, as a word. -/
def refRank (E : IVec S2048 32) : IVec S2048 32 :=
  Host.reduce IntOp.addi (extui 32 (andi (cmpi .eq (broadcastInDim S2048x2048 ![0, 1] bcast_S1x2048_S2048x2048_0_1 (broadcastInDim S1x2048 ![1] bcast_S2048_S1x2048_1 E)) (broadcastInDim S2048x2048 ![0, 1] bcast_S2048x1_S2048x2048_0_1 (broadcastInDim S2048x1 ![0] bcast_S2048_S2048x1_0 E))) (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) natLt_1_32) (constantI S_ 32 0#32) reducesTo_S2048x2048_S2048_d1 h_S_

/-- Which tokens fit. -/
def refFits (E : IVec S2048 32) : IVec S2048 1 :=
  andi (andi (cmpi .slt (refRank E) (broadcastInDim S2048 ![] bcast_S_S2048 (constantI S_ 32 51#32))) (cmpi .sge E (broadcastInDim S2048 ![] bcast_S_S2048 (constantI S_ 32 0#32)))) (cmpi .slt E (broadcastInDim S2048 ![] bcast_S_S2048 (constantI S_ 32 32#32)))

/-- Which weight each token takes. -/
def refIndex (E : IVec S2048 32) : IVec S2048x1 32 :=
  broadcastInDim S2048x1 ![0] bcast_S2048_S2048x1_0 (select (cmpi .slt E (broadcastInDim S2048 ![] bcast_S_S2048 (constantI S_ 32 0#32))) (addi E (broadcastInDim S2048 ![] bcast_S_S2048 (constantI S_ 32 32#32))) E)

/-- Each token's weight. -/
def refWeights (E : IVec S2048 32) (w : FVec Ideal S32x512x1024 .f32) : FVec Ideal S2048x512x1024 .f32 :=
  Host.gather gather_S32x512x1024_S2048x1_S2048x512x1024_12_0_n_n_0_1_15121024 w (refIndex E)

/-- The reference's result. -/
def refOut (x : FVec Ideal S2048x512 .f32) (ids : IVec S2048x1 32) (w : FVec Ideal S32x512x1024 .f32) : FVec Ideal S2048x1024 .f32 :=
  select (broadcastInDim S2048x1024 ![0, 1] bcast_S2048x1_S2048x1024_0_1 (broadcastInDim S2048x1 ![0] bcast_S2048_S2048x1_0 (refFits (refExperts ids))))
    (Host.dotGeneral dot_S2048x512_S2048x512x1024_S2048x1024_1_1_n_2_0_0 none x (refWeights (refExperts ids) w))
    (broadcastInDim S2048x1024 ![] bcast_S_S2048x1024 (id (constant S_ .f32 0x00000000#32)))

/-- The row of experts is the column of experts. -/
theorem refExperts_apply (ids : IVec S2048x1 32) (t : Fin 2048) : refExperts ids (ix1 t) = ids (ix2 t (0 : Fin 1)) := by
  pointwise [refExperts]

/-- The reference's count is the rank. -/
theorem refRank_apply (E : IVec S2048 32) (t : Fin 2048) : refRank E (ix1 t) = BitVec.ofNat 32 (rank (fun u => E (ix1 u)) t) := by
  pointwise [refRank]
  rw [IndicatorCount.fold_addi_setWidth_eq_card]
  unfold rank
  congr 2
  refine Finset.filter_congr fun u _ => ?_
  have hslt : IntOp.cmpi .slt (BitVec.ofNat 32 u.val) (BitVec.ofNat 32 t.val) = BitVec.ofBool (decide (u < t)) := by
    rw [WordCmp.cmpi_slt_ofNat (by have := u.isLt; omega) (by have := t.isLt; omega)]
    rfl
  rw [hslt, WordCmp.cmpi_eq_eq, WordCmp.andi_ofBool, WordCmp.ofBool_eq_one_iff, Bool.and_eq_true, decide_eq_true_iff, decide_eq_true_iff]
  exact and_comm

/-- No token's rank exceeds the number of tokens. -/
theorem rank_le (e : Fin 2048 → BitVec 32) (t : Fin 2048) : rank e t ≤ 2048 := by
  unfold rank
  exact (Finset.card_le_univ _).trans_eq (Fintype.card_fin 2048)

/-- A token fits when it asks for one of the 32 experts and its rank is under the capacity. -/
theorem refFits_apply (E : IVec S2048 32) (t : Fin 2048) :
    refFits E (ix1 t) = BitVec.ofBool (decide ((E (ix1 t)).toNat < 32 ∧ rank (fun u => E (ix1 u)) t < 51)) := by
  unfold refFits
  have hR := refRank_apply E t
  generalize refRank E = R at hR
  pointwise []
  rw [hR]
  have hle := rank_le (fun u => E (ix1 u)) t
  generalize rank (fun u => E (ix1 u)) t = n at hle
  generalize E (ix1 t) = w
  have h1 : IntOp.cmpi .slt (BitVec.ofNat 32 n) 51#32 = BitVec.ofBool (decide (n < 51)) :=
    WordCmp.cmpi_slt_ofNat (by omega) (by omega)
  have h2 : IntOp.andi (IntOp.cmpi .sge w 0#32) (IntOp.cmpi .slt w 32#32) = BitVec.ofBool (decide (w.toNat < 32)) :=
    WordCmp.andi_sge_zero_slt_ofNat (by decide) w
  have h3 : ∀ a b c : BitVec 1, IntOp.andi (IntOp.andi a b) c = IntOp.andi a (IntOp.andi b c) := by decide
  rw [h3, h1, h2, WordCmp.andi_ofBool]
  congr 1
  by_cases ha : n < 51 <;> by_cases hb : w.toNat < 32 <;> simp [ha, hb]

/-- A token that asks for one of the 32 experts takes that expert's weight. -/
theorem refIndex_apply (E : IVec S2048 32) (t : Fin 2048) (hE : (E (ix1 t)).toNat < 32) :
    refIndex E (ix2 t (0 : Fin 1)) = E (ix1 t) := by
  pointwise [refIndex]
  generalize E (ix1 t) = w at hE
  rw [WordCmp.cmpi_slt_zero, WordCmp.select_ofBool]
  exact if_neg (by simp; omega)

/-- The weight at a token: the row its index names, clamped to the rows there are. -/
theorem gathered_apply (w : FVec Ideal S32x512x1024 .f32) (I : IVec S2048x1 32) (t : Fin 2048) (d : Fin 512) (h : Fin 1024) :
    Host.gather gather_S32x512x1024_S2048x1_S2048x512x1024_12_0_n_n_0_1_15121024 w I (ix3 t d h)
      = w (ix3 ⟨min (I (ix2 t (0 : Fin 1))).toInt.toNat 31, by omega⟩ d h) := by
  unfold Host.gather
  refine congrArg w (funext fun a => Fin.ext ?_)
  show gather_S32x512x1024_S2048x1_S2048x512x1024_12_0_n_n_0_1_15121024.start (ix3 t d h) I a
    + gather_S32x512x1024_S2048x1_S2048x512x1024_12_0_n_n_0_1_15121024.batchCoord (ix3 t d h) a
    + gather_S32x512x1024_S2048x1_S2048x512x1024_12_0_n_n_0_1_15121024.offCoord (ix3 t d h) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    have h0 : (⟨0, by decide⟩ : Fin S32x512x1024.rank) ∈ gather_S32x512x1024_S2048x1_S2048x512x1024_12_0_n_n_0_1_15121024.startIndexMap := List.mem_singleton.mpr rfl
    rw [dif_pos h0]
    have hsi : gather_S32x512x1024_S2048x1_S2048x512x1024_12_0_n_n_0_1_15121024.siIdx (ix3 t d h) ⟨0, Nat.one_pos⟩ = ix2 t (0 : Fin 1) := by
      funext b; refine Fin.ext ?_
      match b with
      | ⟨0, _⟩ => rfl
      | ⟨1, _⟩ => rfl
    exact congrArg (fun i => min (I i).toInt.toNat 31) hsi
  | ⟨1, _⟩ =>
    unfold GatherDims.start
    have h0 : (⟨1, by decide⟩ : Fin S32x512x1024.rank) ∉ gather_S32x512x1024_S2048x1_S2048x512x1024_12_0_n_n_0_1_15121024.startIndexMap := by decide
    rw [dif_neg h0]
    show 0 + 0 + d.val = d.val
    omega
  | ⟨2, _⟩ =>
    unfold GatherDims.start
    have h0 : (⟨2, by decide⟩ : Fin S32x512x1024.rank) ∉ gather_S32x512x1024_S2048x1_S2048x512x1024_12_0_n_n_0_1_15121024.startIndexMap := by decide
    rw [dif_neg h0]
    show 0 + 0 + h.val = h.val
    omega

/-- The reference's result is the layer's. -/
theorem refOut_apply (x : FVec Ideal S2048x512 .f32) (ids : IVec S2048x1 32) (w : FVec Ideal S32x512x1024 .f32) (t : Fin 2048) (h : Fin 1024) :
    refOut x ids w (ix2 t h) = layer (fun u => ids (ix2 u (0 : Fin 1))) (fun u d => x (ix2 u d)) (fun i d k => w (ix3 i d k)) t h := by
  have hE : (fun u => refExperts ids (ix1 u)) = fun u => ids (ix2 u (0 : Fin 1)) := funext (refExperts_apply ids)
  have hF := refFits_apply (refExperts ids) t
  rw [hE, refExperts_apply] at hF
  have hW : (ids (ix2 t (0 : Fin 1))).toNat < 32 → ∀ d, refWeights (refExperts ids) w (ix3 t d h)
      = w (ix3 ⟨min (ids (ix2 t (0 : Fin 1))).toInt.toNat 31, by omega⟩ d h) := fun hlt d => by
    unfold refWeights
    rw [gathered_apply]
    simp only [refIndex_apply (refExperts ids) t (by rw [refExperts_apply]; exact hlt), refExperts_apply]
  unfold refOut
  generalize refFits (refExperts ids) = R at hF
  generalize refWeights (refExperts ids) w = V at hW
  pointwise []
  rw [hF, WordCmp.select_ofBool]
  unfold layer
  by_cases h1 : (ids (ix2 t (0 : Fin 1))).toNat < 32
  · rw [dif_pos h1]
    by_cases h2 : rank (fun u => ids (ix2 u (0 : Fin 1))) t < 51
    · rw [if_pos h2, if_pos (decide_eq_true ⟨h1, h2⟩)]
      refine Finset.sum_congr rfl fun d _ => ?_
      rw [hW h1 d]
      refine congrArg (fun i => x (ix2 t d) * w (ix3 i d h)) (Fin.ext ?_)
      show min (ids (ix2 t (0 : Fin 1))).toInt.toNat 31 = (ids (ix2 t (0 : Fin 1))).toNat
      rw [WordCmp.toInt_eq_toNat_of_lt_half (by omega)]
      omega
    · rw [if_neg h2, if_neg (by simp [h2])]
      exact Ideal.ofBits_zero_f32
  · rw [dif_neg h1, if_neg (by simp [h1])]
    exact Ideal.ofBits_zero_f32

end Cert.Value

end
-- ==== Proof.Value.Algebraic.lean ====
/-
The value claim: over the extended reals each device's result is its block of the reference's result.
-/
module

public import proofs.«01_k».proof.Defs
public import proofs.«01_k».proof.Proof.RunKernelIdeal.Run
public import proofs.«01_k».proof.Proof.Value.Staged
public import proofs.«01_k».proof.Proof.Value.Out
public import proofs.«01_k».proof.Proof.Value.Reference

@[expose] public section

noncomputable section

namespace Cert.Value

open Idealize.ShloMosaic Idealize.SL.Sem

/-- With the tokens and the experts on every device and the weights split over the devices, each
device's result is its block of the reference's. -/
theorem outAt_block (m : (ℓ : Loc Cert.KernelIdeal.nD Cert.KernelIdeal.τ Cert.KernelIdeal.sig) → Buf (Elt Ideal) ℓ)
    (x : FVec Ideal Cert.ReferenceIdeal.S2048x512 .f32) (ids : IVec Cert.ReferenceIdeal.S2048x1 32)
    (w : FVec Ideal Cert.ReferenceIdeal.S32x512x1024 .f32)
    (hx : ∀ c : Dev Cert.KernelIdeal.nD, m ((c.tc : Thread Cert.KernelIdeal.nD Cert.KernelIdeal.τ).loc Cert.KernelIdeal.main_arg0) = x)
    (hi : ∀ c : Dev Cert.KernelIdeal.nD, m ((c.tc : Thread Cert.KernelIdeal.nD Cert.KernelIdeal.τ).loc Cert.KernelIdeal.main_arg2) = ids)
    (hw : ∀ c : Dev Cert.KernelIdeal.nD, m ((c.tc : Thread Cert.KernelIdeal.nD Cert.KernelIdeal.τ).loc Cert.KernelIdeal.main_arg3)
      = Layout.block ⟨3, ![8, 512, 1024]⟩ ⟨3, ![32, 512, 1024]⟩ 0 4 c w)
    (c : Dev Cert.KernelIdeal.nD) :
    Cert.KernelIdealRun.outAt m c = Layout.block ⟨2, ![512, 1024]⟩ ⟨2, ![2048, 1024]⟩ 0 4 c (refOut x ids w) := by
  funext i
  obtain ⟨r, h, rfl⟩ : ∃ (r : Fin 512) (h : Fin 1024), i = ix2 r h :=
    ⟨i 0, i 1, funext fun a => match a with
      | ⟨0, _⟩ => rfl
      | ⟨1, _⟩ => rfl⟩
  have hc := c.isLt
  have hr := r.isLt
  let t : Fin 2048 := ⟨512 * c.val + r.val, by have : c.val < 4 := hc; omega⟩
  have hidx : (Layout.block ⟨2, ![512, 1024]⟩ ⟨2, ![2048, 1024]⟩ 0 4 c (refOut x ids w) : Cert.KernelIdeal.S512x1024.Idx → EReal) (ix2 r h) = refOut x ids w (ix2 t h) := by
    refine congrArg (refOut x ids w) (funext fun a => Fin.ext ?_)
    match a with
    | ⟨0, _⟩ => exact congrArg (· + r.val) (Nat.mul_comm c.val 512)
    | ⟨1, _⟩ => rfl
  rw [hidx, refOut_apply]
  refine out_apply m _ _ _ (fun d u => ?_) (fun d u k => ?_) (fun d j k n => ?_) c r h t rfl
  · show Cert.KernelIdealRun.eAt m d (ix2 u 0) = ids (ix2 u 0)
    rw [eAt_eq]
    exact congrFun (hi d) _
  · rw [xAt_eq]
    exact congrFun (hx d) _
  · rw [wAt_apply]
    refine (congrFun (hw d) _).trans (congrArg w (funext fun a => Fin.ext ?_))
    match a with
    | ⟨0, _⟩ => exact congrArg (· + j.val) (Nat.mul_comm d.val 8)
    | ⟨1, _⟩ => rfl
    | ⟨2, _⟩ => rfl

/-- The kernel's result is the reference's, split over the devices by rows. -/
theorem algebraic : @Cert.algebraic_KernelIdeal_ReferenceIdeal Cert.KernelIdeal.Gen.facts Cert.ReferenceIdeal.Gen.facts :=
  fun m g m' g' _ hargs => by
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run _ _ _).mono (fun r hr c => ⟨?_, (hr.1 c).2⟩) (Cert.KernelIdealRun.run_main (F := Ideal) m g)
    rw [(hr.1 c).1, arrAt_out]
    exact outAt_block m _ _ _ (fun c => (hargs c).1) (fun c => (hargs c).2.2.1) (fun c => (hargs c).2.2.2) c
  · exact (θ_run _ _ _).mono (fun r hr => hr 0) (Cert.ReferenceIdeal.Value.run (F := Ideal) m' g')

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
   frame_kernel, frame_ideal, frame_ref, trivial, Cert.Value.algebraic⟩

end Cert.Proof

end
